-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_s" .f32 0x3CA3D70A#32 ((50⁻¹ : ℝ) : EReal)
  ∧ IdealRules.named_const.Statement Cert.KernelIdeal.κ "mask" .f32 0xF149F2CA#32 ⊥

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S1024x50 : Shape := ⟨2, ![1024, 50]⟩
abbrev S100000x128 : Shape := ⟨2, ![100000, 128]⟩
abbrev S128x128 : Shape := ⟨2, ![128, 128]⟩
abbrev S128 : Shape := ⟨1, ![128]⟩
abbrev S100000 : Shape := ⟨1, ![100000]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S100000x128 .f32) (main_arg2 : FVec F S128x128 .f32) (main_arg3 : FVec F S128 .f32) (main_arg4 : FVec F S100000x128 .f32) (main_arg5 : FVec F S100000 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Pre_in_range_and_finite.lean ====
abbrev S1024x50 : Shape := ⟨2, ![1024, 50]⟩
abbrev S100000x128 : Shape := ⟨2, ![100000, 128]⟩
abbrev S128x128 : Shape := ⟨2, ![128, 128]⟩
abbrev S128 : Shape := ⟨1, ![128]⟩
abbrev S100000 : Shape := ⟨1, ![100000]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg4 : FVec F S100000x128 .f32) (main_arg5 : FVec F S100000 .f32) (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  let main_v21 : FVec F S100000x128 .f32 := Host.absf main_arg4
  let main_cst_7 : FVec F S_ .f32 := constant S_ .f32 0x7F800000#32
  let main_v22 : FVec F S100000x128 .f32 := broadcastInDim S100000x128 ![] bcast_S_S100000x128 main_cst_7
  let main_v23 : IVec S100000x128 1 := cmpf .olt main_v21 main_v22
  let main_c_8 : IVec S_ 1 := constantI S_ 1 1#1
  let main_v24 : IVec S_ 1 := (fun x v => Host.reduce IntOp.andi x v reducesTo_S100000x128_S_d0_1 h_S_) main_v23 main_c_8
  let main_v25 : IVec S_ 1 := andi main_v20 main_v24
  let main_v26 : FVec F S100000 .f32 := Host.absf main_arg5
  let main_cst_9 : FVec F S_ .f32 := constant S_ .f32 0x7F800000#32
  let main_v27 : FVec F S100000 .f32 := broadcastInDim S100000 ![] bcast_S_S100000 main_cst_9
  let main_v28 : IVec S100000 1 := cmpf .olt main_v26 main_v27
  let main_c_10 : IVec S_ 1 := constantI S_ 1 1#1
  let main_v29 : IVec S_ 1 := (fun x v => Host.reduce IntOp.andi x v reducesTo_S100000_S_d0 h_S_) main_v28 main_c_10
  let main_v30 : IVec S_ 1 := andi main_v25 main_v29
  main_v30

def fn {F : FTy → Type} [FloatOps F] (main_arg0 : IVec S1024x50 32) (main_arg1 : FVec F S100000x128 .f32) (main_arg2 : FVec F S128x128 .f32) (main_arg3 : FVec F S128 .f32) (main_arg4 : FVec F S100000x128 .f32) (main_arg5 : FVec F S100000 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  let main_v6 : FVec F S100000x128 .f32 := Host.absf main_arg1
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S128x128 .f32 := Host.absf main_arg2
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_c_4 : IVec S_ 1 := constantI S_ 1 1#1
  let main_v14 : IVec S_ 1 := (fun x v => Host.reduce IntOp.andi x v reducesTo_S128x128_S_d0_1 h_S_) main_v13 main_c_4
  let main_v15 : IVec S_ 1 := andi main_v10 main_v14
  let main_v16 : FVec F S128 .f32 := Host.absf main_arg3
  fn_part1 (F := F) main_arg4 main_arg5 main_v15 main_v16
-- ==== Kernel.lean ====
abbrev S1024x50 : Shape := ⟨2, ![1024, 50]⟩
abbrev S100000x128 : Shape := ⟨2, ![100000, 128]⟩
abbrev S128x128 : Shape := ⟨2, ![128, 128]⟩
abbrev S128 : Shape := ⟨1, ![128]⟩
abbrev S100000 : Shape := ⟨1, ![100000]⟩
abbrev S1024x128 : Shape := ⟨2, ![1024, 128]⟩
abbrev S32x50 : Shape := ⟨2, ![32, 50]⟩
abbrev S50x128 : Shape := ⟨2, ![50, 128]⟩
abbrev S32x128 : Shape := ⟨2, ![32, 128]⟩
abbrev S_ : Shape := ⟨0, ![]⟩
abbrev S1x50 : Shape := ⟨2, ![1, 50]⟩
abbrev S50 : Shape := ⟨1, ![50]⟩
abbrev S1x16 : Shape := ⟨2, ![1, 16]⟩
abbrev S16 : Shape := ⟨1, ![16]⟩
abbrev S1x128 : Shape := ⟨2, ![1, 128]⟩
abbrev S1x100000 : Shape := ⟨2, ![1, 100000]⟩
abbrev S1024x100000 : Shape := ⟨2, ![1024, 100000]⟩
abbrev S1024x1 : Shape := ⟨2, ![1024, 1]⟩
abbrev S2048x128 : Shape := ⟨2, ![2048, 128]⟩
abbrev S1x2048 : Shape := ⟨2, ![1, 2048]⟩
abbrev S1024x2048 : Shape := ⟨2, ![1024, 2048]⟩
abbrev S1024 : Shape := ⟨1, ![1024]⟩

abbrev nBuf : Table → Nat
  | .hbm => 14
  | .local .tc .vmem => 13
  | .local .scVector .vmem => 4
  | _ => 0

abbrev bufTy : (tb : Table) → Fin (nBuf tb) → BufTy
  | .hbm, ⟨0, _⟩ => ⟨S1024x50, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .f32⟩
  | .hbm, ⟨6, _⟩ => ⟨S1024x128, .f32⟩
  | .hbm, ⟨7, _⟩ => ⟨S1x128, .f32⟩
  | .hbm, ⟨8, _⟩ => ⟨S1x100000, .f32⟩
  | .hbm, ⟨9, _⟩ => ⟨S1024x100000, .bf16⟩
  | .hbm, ⟨10, _⟩ => ⟨S1024x1, .f32⟩
  | .hbm, ⟨11, _⟩ => ⟨S1024x100000, .f32⟩
  | .hbm, ⟨12, _⟩ => ⟨S1024x100000, .f32⟩
  | .hbm, ⟨13, _⟩ => ⟨S1024x100000, .f32⟩
  | .local .tc .vmem, ⟨0, _⟩ => ⟨S1024x128, .f32⟩
  | .local .tc .vmem, ⟨1, _⟩ => ⟨S128x128, .f32⟩
  | .local .tc .vmem, ⟨2, _⟩ => ⟨S1x128, .f32⟩
  | .local .tc .vmem, ⟨3, _⟩ => ⟨S2048x128, .f32⟩
  | .local .tc .vmem, ⟨4, _⟩ => ⟨S2048x128, .f32⟩
  | .local .tc .vmem, ⟨5, _⟩ => ⟨S1x2048, .f32⟩
  | .local .tc .vmem, ⟨6, _⟩ => ⟨S1x2048, .f32⟩
  | .local .tc .vmem, ⟨7, _⟩ => ⟨S1024x2048, .bf16⟩
  | .local .tc .vmem, ⟨8, _⟩ => ⟨S1024x2048, .bf16⟩
  | .local .tc .vmem, ⟨9, _⟩ => ⟨S1024x1, .f32⟩
  | .local .tc .vmem, ⟨10, _⟩ => ⟨S1024x128, .bf16⟩
  | .local .tc .vmem, ⟨11, _⟩ => ⟨S1024x1, .f32⟩
  | .local .tc .vmem, ⟨12, _⟩ => ⟨S1024x1, .f32⟩
  | .local .scVector .vmem, ⟨0, _⟩ => ⟨S32x50, .i32⟩
  | .local .scVector .vmem, ⟨1, _⟩ => ⟨S50x128, .f32⟩
  | .local .scVector .vmem, ⟨2, _⟩ => ⟨S50x128, .f32⟩
  | .local .scVector .vmem, ⟨3, _⟩ => ⟨S32x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg0_scv : Ref sig .scVector := ⟨.hbm, 0, rfl⟩
abbrev main_arg1_scv : Ref sig .scVector := ⟨.hbm, 1, rfl⟩
abbrev main_v0_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_stg6_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2_r0 : BitVec 32 := 0#32
  ![v2.toNat, 0]
@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c0_i32_4 : BitVec 32 := 0#32
  ![v4.toNat, 0]
def k0_off3 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let c0_i32_7 : BitVec 32 := 0#32
  ![v5.toNat, 0]
@[reducible] def k0_t2_loop : Scf.Loop 32 :=
  let c1_i32_21 : BitVec 32 := 1#32
  let c49_i32 : BitVec 32 := 49#32
  let v39 : BitVec 32 := Scalar.addi c1_i32_21 c49_i32
  let c1_i32_22 : BitVec 32 := 1#32
  ⟨c1_i32_21, v39, c1_i32_22⟩
def k0_off4 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v166 : Index := Scalar.indexCast arg12
  let c0_78 : Index := 0#32
  ![v166.toNat, 0]
def k0_off5 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v170 : Index := Scalar.indexCast arg12
  let c16_79 : Index := 16#32
  ![v170.toNat, 16]
def k0_off6 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v174 : Index := Scalar.indexCast arg12
  let c32_80 : Index := 32#32
  ![v174.toNat, 32]
def k0_off7 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v178 : Index := Scalar.indexCast arg12
  let c48_81 : Index := 48#32
  ![v178.toNat, 48]
def k0_off8 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v182 : Index := Scalar.indexCast arg12
  let c64_82 : Index := 64#32
  ![v182.toNat, 64]
def k0_off9 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v186 : Index := Scalar.indexCast arg12
  let c80_83 : Index := 80#32
  ![v186.toNat, 80]
def k0_off10 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v190 : Index := Scalar.indexCast arg12
  let c96_84 : Index := 96#32
  ![v190.toNat, 96]
def k0_off11 (k0_t2 : Fin k0_t2_loop.trips) : Fin 2 → Nat :=
  let c1_i32_21 : BitVec 32 := 1#32
  let c1_i32_22 : BitVec 32 := 1#32
  let arg12 : BitVec 32 := Scf.iv c1_i32_21 c1_i32_22 k0_t2
  let v194 : Index := Scalar.indexCast arg12
  let c112_85 : Index := 112#32
  ![v194.toNat, 112]
def k0_off12 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v43 : Index := Scalar.indexCast v4
  let c0_24 : Index := 0#32
  ![v43.toNat, 0]
def k0_off13 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v49 : Index := Scalar.indexCast v4
  let c16_26 : Index := 16#32
  ![v49.toNat, 16]
def k0_off14 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v55 : Index := Scalar.indexCast v4
  let c32_28 : Index := 32#32
  ![v55.toNat, 32]
def k0_off15 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v61 : Index := Scalar.indexCast v4
  let c48_30 : Index := 48#32
  ![v61.toNat, 48]
def k0_off16 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v67 : Index := Scalar.indexCast v4
  let c64_32 : Index := 64#32
  ![v67.toNat, 64]
def k0_off17 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v73 : Index := Scalar.indexCast v4
  let c80_34 : Index := 80#32
  ![v73.toNat, 80]
def k0_off18 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v79 : Index := Scalar.indexCast v4
  let c96_36 : Index := 96#32
  ![v79.toNat, 96]
def k0_off19 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let v85 : Index := Scalar.indexCast v4
  let c112_38 : Index := 112#32
  ![v85.toNat, 112]
@[reducible] def k0_t3_loop : Scf.Loop 32 :=
  let c1_i32_58 : BitVec 32 := 1#32
  let c49_i32_59 : BitVec 32 := 49#32
  let v116 : BitVec 32 := Scalar.addi c1_i32_58 c49_i32_59
  let c1_i32_60 : BitVec 32 := 1#32
  ⟨c1_i32_58, v116, c1_i32_60⟩
def k0_off20 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v166 : Index := Scalar.indexCast arg12
  let c0_78 : Index := 0#32
  ![v166.toNat, 0]
def k0_off21 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v170 : Index := Scalar.indexCast arg12
  let c16_79 : Index := 16#32
  ![v170.toNat, 16]
def k0_off22 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v174 : Index := Scalar.indexCast arg12
  let c32_80 : Index := 32#32
  ![v174.toNat, 32]
def k0_off23 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v178 : Index := Scalar.indexCast arg12
  let c48_81 : Index := 48#32
  ![v178.toNat, 48]
def k0_off24 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v182 : Index := Scalar.indexCast arg12
  let c64_82 : Index := 64#32
  ![v182.toNat, 64]
def k0_off25 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v186 : Index := Scalar.indexCast arg12
  let c80_83 : Index := 80#32
  ![v186.toNat, 80]
def k0_off26 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v190 : Index := Scalar.indexCast arg12
  let c96_84 : Index := 96#32
  ![v190.toNat, 96]
def k0_off27 (k0_t3 : Fin k0_t3_loop.trips) : Fin 2 → Nat :=
  let c1_i32_58 : BitVec 32 := 1#32
  let c1_i32_60 : BitVec 32 := 1#32
  let arg12 : BitVec 32 := Scf.iv c1_i32_58 c1_i32_60 k0_t3
  let v194 : Index := Scalar.indexCast arg12
  let c112_85 : Index := 112#32
  ![v194.toNat, 112]
def k0_off28 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v120 : Index := Scalar.indexCast v5
  let c0_63 : Index := 0#32
  ![v120.toNat, 0]
def k0_off29 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v126 : Index := Scalar.indexCast v5
  let c16_65 : Index := 16#32
  ![v126.toNat, 16]
def k0_off30 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v132 : Index := Scalar.indexCast v5
  let c32_67 : Index := 32#32
  ![v132.toNat, 32]
def k0_off31 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v138 : Index := Scalar.indexCast v5
  let c48_69 : Index := 48#32
  ![v138.toNat, 48]
def k0_off32 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v144 : Index := Scalar.indexCast v5
  let c64_71 : Index := 64#32
  ![v144.toNat, 64]
def k0_off33 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v150 : Index := Scalar.indexCast v5
  let c80_73 : Index := 80#32
  ![v150.toNat, 80]
def k0_off34 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v156 : Index := Scalar.indexCast v5
  let c96_75 : Index := 96#32
  ![v156.toNat, 96]
def k0_off35 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c2_i32_2 : BitVec 32 := 2#32
  let v4 : BitVec 32 := Scalar.muli arg11 c2_i32_2
  let c1_i32_3 : BitVec 32 := 1#32
  let v5 : BitVec 32 := Scalar.addi v4 c1_i32_3
  let v162 : Index := Scalar.indexCast v5
  let c112_77 : Index := 112#32
  ![v162.toNat, 112]
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2_r1 : BitVec 32 := 0#32
  ![v2.toNat, 0]
abbrev grid1 : Pipeline.Grid := ⟨1, ![49], ![false]⟩

def k1_cond2 (i : grid1.Coords) : BitVec 1 :=
  let arg0 : BitVec 32 := BitVec.ofNat 32 (i 0).val
  let c48_i32 : BitVec 32 := 48#32
  let v44 : BitVec 1 := Scalar.cmpi .eq arg0 c48_i32
  let v45 : BitVec 32 := Scalar.extui v44
  let c0_i32_21 : BitVec 32 := 0#32
  let v46 : BitVec 1 := Scalar.cmpi .ne v45 c0_i32_21
  v46

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_s" => some ((50⁻¹ : ℝ) : EReal)
  | "mask" => some ⊥
  | _ => none
-- ==== ReferenceIdeal.lean ====
abbrev S1024x50 : Shape := ⟨2, ![1024, 50]⟩
abbrev S100000x128 : Shape := ⟨2, ![100000, 128]⟩
abbrev S128x128 : Shape := ⟨2, ![128, 128]⟩
abbrev S128 : Shape := ⟨1, ![128]⟩
abbrev S100000 : Shape := ⟨1, ![100000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S1024x128 : Shape := ⟨2, ![1024, 128]⟩
abbrev S1x128 : Shape := ⟨2, ![1, 128]⟩
abbrev S128x100000 : Shape := ⟨2, ![128, 100000]⟩
abbrev S1024x100000 : Shape := ⟨2, ![1024, 100000]⟩
abbrev S1x100000 : Shape := ⟨2, ![1, 100000]⟩
abbrev S1024 : Shape := ⟨1, ![1024]⟩
abbrev S1024x1 : Shape := ⟨2, ![1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .f32⟩
  | .hbm, ⟨6, _⟩ => ⟨S_, .i32⟩
  | .hbm, ⟨7, _⟩ => ⟨S1024x50, .i32⟩
  | .hbm, ⟨8, _⟩ => ⟨S1024x50, .i1⟩
  | .hbm, ⟨9, _⟩ => ⟨S_, .i32⟩
  | .hbm, ⟨10, _⟩ => ⟨S1024x50, .i32⟩
  | .hbm, ⟨11, _⟩ => ⟨S1024x50, .i32⟩
  | .hbm, ⟨12, _⟩ => ⟨S1024x50, .i32⟩
  | .hbm, ⟨13, _⟩ => ⟨S1024x50x1, .i32⟩
  | .hbm, ⟨14, _⟩ => ⟨S1, .i32⟩
  | .hbm, ⟨15, _⟩ => ⟨S_, .i32⟩
  | .hbm, ⟨16, _⟩ => ⟨S1024x50x1, .i32⟩
  | .hbm, ⟨17, _⟩ => ⟨S1024x50x1, .i1⟩
  | .hbm, ⟨18, _⟩ => ⟨S1x1x1, .i32⟩
  | .hbm, ⟨19, _⟩ => ⟨S1024x50x1, .i32⟩
  | .hbm, ⟨20, _⟩ => ⟨S1024x50x1, .i1⟩
  | .hbm, ⟨21, _⟩ => ⟨S1024x50x1, .i1⟩
  | .hbm, ⟨22, _⟩ => ⟨S_, .i1⟩
  | .hbm, ⟨23, _⟩ => ⟨S1024x50, .i1⟩
  | .hbm, ⟨24, _⟩ => ⟨S1024x50x128, .f32⟩
  | .hbm, ⟨25, _⟩ => ⟨S1024x50x128, .i1⟩
  | .hbm, ⟨26, _⟩ => ⟨S_, .f32⟩
  | .hbm, ⟨27, _⟩ => ⟨S1024x50x128, .f32⟩
  | .hbm, ⟨28, _⟩ => ⟨S1024x50x128, .f32⟩
  | .hbm, ⟨29, _⟩ => ⟨S_, .f32⟩
  | .hbm, ⟨30, _⟩ => ⟨S1024x128, .f32⟩
  | .hbm, ⟨31, _⟩ => ⟨S_, .f32⟩
  | .hbm, ⟨32, _⟩ => ⟨S1024x128, .f32⟩
  | .hbm, ⟨33, _⟩ => ⟨S1024x128, .f32⟩
  | .hbm, ⟨34, _⟩ => ⟨S128x128, .f32⟩
  | .hbm, ⟨35, _⟩ => ⟨S1024x128, .f32⟩
  | .hbm, ⟨36, _⟩ => ⟨S1x128, .f32⟩
  | .hbm, ⟨37, _⟩ => ⟨S1024x128, .f32⟩
  | .hbm, ⟨38, _⟩ => ⟨S1024x128, .f32⟩
  | .hbm, ⟨39, _⟩ => ⟨S_, .f32⟩
  | .hbm, ⟨40, _⟩ => ⟨S1024x128, .f32⟩
  | .hbm, ⟨41, _⟩ => ⟨S1024x128, .f32⟩
  | .hbm, ⟨42, _⟩ => ⟨S128x100000, .f32⟩
  | .hbm, ⟨43, _⟩ => ⟨S1024x100000, .f32⟩
  | .hbm, ⟨44, _⟩ => ⟨S1x100000, .f32⟩
  | .hbm, ⟨45, _⟩ => ⟨S1024x100000, .f32⟩
  | .hbm, ⟨46, _⟩ => ⟨S1024x100000, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024x1, .f32⟩
  | .hbm, ⟨53, _⟩ => ⟨S1024x100000, .f32⟩
  | .hbm, ⟨54, _⟩ => ⟨S1024x100000, .f32⟩
  | .hbm, ⟨55, _⟩ => ⟨S1024x100000, .f32⟩
  | .hbm, ⟨56, _⟩ => ⟨S_, .f32⟩
  | .hbm, ⟨57, _⟩ => ⟨S1024, .f32⟩
  | .hbm, ⟨58, _⟩ => ⟨S1024x1, .f32⟩
  | .hbm, ⟨59, _⟩ => ⟨S1024x1, .f32⟩
  | .hbm, ⟨60, _⟩ => ⟨S1024x100000, .f32⟩
  | .hbm, ⟨61, _⟩ => ⟨S1024x100000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call2_cst : Ref sig .tc := ⟨.hbm, 47, rfl⟩
abbrev main_call2_v0 : Ref sig .tc := ⟨.hbm, 48, rfl⟩
abbrev main_call2_cst_0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_cst_1 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_v15 : Ref sig .tc := ⟨.hbm, 61, rfl⟩

abbrev nD : Nat := 1
abbrev τ : Topo := Topo.v7x

variable {F : FTy → Type} [FloatOps F]
-- ==== Proof.Pre.lean ====
/-
  The precondition of the frames, read element by element: every token id names a row of the table.
-/
module

public import proofs.«01_k».proof.Pre_in_range
public import Idealize.ShloMosaic.Lib.ReduceAll
public import Idealize.ShloMosaic.Lib.WordCmp

@[expose] public section

noncomputable section

namespace Cert.Proof.Pre

open Idealize.ShloMosaic

/-- A token id that passes the test `0 ≤ v < 100000` is below the bound as a natural number. -/
theorem id_lt {v : BitVec 32} (e : IntOp.andi (IntOp.cmpi .sge v 0#32) (IntOp.cmpi .slt v 100000#32) = 1#1) : v.toNat < 100000 := by
  rw [WordCmp.cmpi_sge_eq, WordCmp.cmpi_slt_eq, WordCmp.andi_ofBool, WordCmp.ofBool_eq_one_iff, Bool.and_eq_true, decide_eq_true_eq,
    decide_eq_true_eq, BitVec.toInt_eq_toNat_cond, BitVec.toInt_eq_toNat_cond, BitVec.toInt_eq_toNat_cond] at e
  simp only [BitVec.toNat_ofNat, Nat.reducePow, Nat.reduceMod, Nat.reduceMul, Nat.reduceLT] at e
  split at e <;> simp at e <;> omega

theorem andi_one {a b : BitVec 1} (e : IntOp.andi a b = 1#1) : a = 1#1 ∧ b = 1#1 := by
  revert a b; decide

section InRange
open Cert.Pre_in_range
variable {F : FTy → Type} [FloatOps F] [Cert.Pre_in_range.Facts]

instance : Subsingleton Cert.Pre_in_range.S_.Idx := ⟨fun a b => funext fun i => i.elim0⟩

theorem in_range {a0 : IVec S1024x50 32} {a1 : FVec F S100000x128 .f32} {a2 : FVec F S128x128 .f32} {a3 : FVec F S128 .f32}
    {a4 : FVec F S100000x128 .f32} {a5 : FVec F S100000 .f32} (h : Cert.Pre_in_range.fn a0 a1 a2 a3 a4 a5 = fun _ => 1#1) (j : S1024x50.Idx) :
    (a0 j).toNat < 100000 := by
  have e := congrFun h (fun i => i.elim0)
  exact id_lt (Host.reduce_andi_all _ _ _ _ _ e j)

end InRange

end Cert.Proof.Pre

end
-- ==== Proof.PreFinite.lean ====
/-
  The precondition of the value claim, read element by element: every token id names a row of the table, and every float
  argument is finite.
-/
module

public import proofs.«01_k».proof.Proof.Pre
public import proofs.«01_k».proof.Pre_in_range_and_finite
public import Idealize.ShloMosaic.PureOps.Ideal

@[expose] public section

noncomputable section

namespace Cert.Proof.Pre

open Idealize.ShloMosaic

/-- A number whose absolute value is below the infinity is a real number. -/
theorem real_of {x : EReal} (e : FloatOps.cmpf (F := Ideal) (φ := .f32) .olt (FloatOps.hostAbsf (F := Ideal) (φ := .f32) x)
    (FloatOps.ofBits (F := Ideal) .f32 0x7F800000#32) = 1#1) : x ≠ ⊤ ∧ x ≠ ⊥ := by
  have htop : Ideal.ofBits .f32 0x7F800000#32 = ⊤ := by simp [Ideal.ofBits, Ideal.ieee]
  have e' : Ideal.cmp .olt (max x (-x)) (Ideal.ofBits .f32 0x7F800000#32) = 1#1 := e
  rw [htop] at e'
  unfold Ideal.cmp at e'
  rw [WordCmp.ofBool_eq_one_iff] at e'
  constructor <;> rintro rfl <;> simp at e'

section Finite
open Cert.Pre_in_range_and_finite
variable [Cert.Pre_in_range_and_finite.Facts]

instance : Subsingleton Cert.Pre_in_range_and_finite.S_.Idx := ⟨fun a b => funext fun i => i.elim0⟩

/-- A tensor of real numbers: no entry an infinity. -/
def Finite {s : Shape} (x : FVec Ideal s .f32) : Prop := ∀ j, ((x j : EReal)) ≠ ⊤ ∧ ((x j : EReal)) ≠ ⊥

/-- The six tests one by one. -/
theorem parts {a0 : IVec S1024x50 32} {a1 : FVec Ideal S100000x128 .f32} {a2 : FVec Ideal S128x128 .f32} {a3 : FVec Ideal S128 .f32}
    {a4 : FVec Ideal S100000x128 .f32} {a5 : FVec Ideal S100000 .f32} (h : Cert.Pre_in_range_and_finite.fn a0 a1 a2 a3 a4 a5 = fun _ => 1#1) :
    (∀ j, (a0 j).toNat < 100000) ∧ Finite a1 ∧ Finite a2 ∧ Finite a3 ∧ Finite a4 ∧ Finite a5 := by
  have e := congrFun h (fun i => i.elim0)
  obtain ⟨e, e5⟩ := andi_one e
  obtain ⟨e, e4⟩ := andi_one e
  obtain ⟨e, e3⟩ := andi_one e
  obtain ⟨e, e2⟩ := andi_one e
  obtain ⟨e0, e1⟩ := andi_one e
  exact ⟨fun j => id_lt (Host.reduce_andi_all _ _ _ _ _ e0 j), fun j => real_of (Host.reduce_andi_all _ _ _ _ _ e1 j),
    fun j => real_of (Host.reduce_andi_all _ _ _ _ _ e2 j), fun j => real_of (Host.reduce_andi_all _ _ _ _ _ e3 j),
    fun j => real_of (Host.reduce_andi_all _ _ _ _ _ e4 j), fun j => real_of (Host.reduce_andi_all _ _ _ _ _ e5 j)⟩

end Finite

end Cert.Proof.Pre

end
-- ==== Proof.Base.lean ====
/-
  The program as the SparseCore launch theorem sees it: its label signatures, its body tables, the algebra of ghost
  state (the launch handshakes' rounds, the TensorCore pipeline's rounds, the transfers' counters), the buffers' names,
  and what the launch hands to each of the thirty-two tiles: its thirty-two rows of the token table, a share of the
  embedding table, and its thirty-two rows of the pooled array.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Labels, tables -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ
local notation "𝕄" => MT nD τ sig (HIx 1) (Elt F) ℕ UU ℕ

abbrev EH : Emb UH (MT nD τ sig (HIx 1) (Elt F) ℕ UU ℕ) := embL
/-- The pipeline's rounds in the certificate's algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

variable (m : (ℓ : Loc nD τ sig) → Buf (Elt F) ℓ)

/-- The token table, the embedding table and the pooled array of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S1024x50 .i32 := Memref.whole main_arg0_scv
abbrev xV : Memref sig .scVector .hbm S100000x128 .f32 := Memref.whole main_arg1_scv
abbrev oV : Memref sig .scVector .hbm S1024x128 .f32 := Memref.whole main_v0_scv
abbrev sV : Memref sig .scVector .vmem S32x50 .i32 := Memref.whole cc0_scratch0
abbrev aV : Memref sig .scVector .vmem S50x128 .f32 := Memref.whole cc0_scratch1
abbrev bV : Memref sig .scVector .vmem S50x128 .f32 := Memref.whole cc0_scratch2
abbrev rV : Memref sig .scVector .vmem S32x128 .f32 := Memref.whole cc0_scratch3

/-! ## The tiles' rows: thirty-two at a time -/

theorem idiv : 32 ∣ S1024x50.size 0 := ⟨32, rfl⟩
theorem odiv : 32 ∣ S1024x128.size 0 := ⟨32, rfl⟩
abbrev irow (w : Fin 32) : Rect S1024x50 := Rect.part (s := S1024x50) (a₀ := 0) idiv w
abbrev orow (w : Fin 32) : Rect S1024x128 := Rect.part (s := S1024x128) (a₀ := 0) odiv w
abbrev iRowSet (w : Fin 32) : Finset S1024x50.Idx := (iV.view.slice (irow w)).set
abbrev oRowSet (w : Fin 32) : Finset S1024x128.Idx := (oV.view.slice (orow w)).set

/-! ## Shares: the full share halved five times -/

/-- Leaf number `i` of the share tree of depth `n` under `q`, read by the number's binary digits, lowest first. -/
def leaf (q : PosShare TreeShare) : ℕ → ℕ → PosShare TreeShare
  | 0, _ => q
  | n + 1, i => if i % 2 = 0 then (leaf q n (i / 2)).left else (leaf q n (i / 2)).right

/-- A points-to at a share is its leaves' together. -/
theorem pointsTo_leaves {ℓ : Loc nD τ sig} (I : Finset (Idx ℓ)) (f : Buf (Elt F) ℓ) (q : PosShare TreeShare) :
    ∀ n : ℕ, (ℓ ↦[I]{q} f : sProp 𝕄) = bigSep Finset.univ fun i : Fin (2 ^ n) => ℓ ↦[I]{leaf q n i.val} f
  | 0 => (bigSep_univ_of_subsingleton (0 : Fin 1) (Φ := fun i : Fin (2 ^ 0) => (ℓ ↦[I]{leaf q 0 i.val} f : sProp 𝕄))).symm
  | n + 1 => by
    have e : ∀ s : PosShare TreeShare, (ℓ ↦[I]{s} f : sProp 𝕄) = iprop((ℓ ↦[I]{s.left} f) ∗ (ℓ ↦[I]{s.right} f)) := fun s =>
      BI.Entails.antisymm (pointsTo_share (PosShare.mem_left_op_right s)).1 (pointsTo_share (PosShare.mem_left_op_right s)).2
    rw [pointsTo_leaves I f q n]
    let eqv : Fin (2 ^ n) ⊕ Fin (2 ^ n) ≃ Fin (2 ^ (n + 1)) :=
      { toFun := Sum.elim (fun i => ⟨2 * i.val, by omega⟩) (fun i => ⟨2 * i.val + 1, by omega⟩)
        invFun := fun i => if i.val % 2 = 0 then .inl ⟨i.val / 2, by omega⟩ else .inr ⟨i.val / 2, by omega⟩
        left_inv := by
          rintro (i | i)
          · simp
          · show (if (2 * i.val + 1) % 2 = 0 then _ else Sum.inr _) = Sum.inr i
            rw [if_neg (show ¬(2 * i.val + 1) % 2 = 0 by omega)]; congr 1; exact Fin.ext (show (2 * i.val + 1) / 2 = i.val by omega)
        right_inv := by
          intro i; by_cases h : i.val % 2 = 0
          · simp only [h, ↓reduceIte, Sum.elim_inl]; exact Fin.ext (by simp only; omega)
          · simp only [h, ↓reduceIte, Sum.elim_inr]; exact Fin.ext (by simp only; omega) }
    rw [bigSep_univ_equiv eqv (fun i : Fin (2 ^ (n + 1)) => (ℓ ↦[I]{leaf q (n + 1) i.val} f : sProp 𝕄)), bigSep_univ_sum]
    rw [bigSep_congr (fun i _ => e (leaf q n i.val)), bigSep_sep']
    congr 1 <;> refine bigSep_congr fun i _ => ?_
    · have h1 : (eqv (Sum.inl i)).val = 2 * i.val := rfl
      rw [h1, leaf, if_pos (by omega), show 2 * i.val / 2 = i.val by omega]
    · have h1 : (eqv (Sum.inr i)).val = 2 * i.val + 1 := rfl
      rw [h1, leaf, if_neg (by omega), show (2 * i.val + 1) / 2 = i.val by omega]

/-- Tile `w`'s share of the embedding table. -/
abbrev xq (w : Fin 32) : PosShare TreeShare := leaf fullShare 5 w.val

end Cert.Proof.Pool

end
-- ==== Proof.Rows.lean ====
/-
  What a tile computes, as functions of what it reads: the rows of the embedding table that a row of tokens names, their
  column sums taken in the kernel's order, and the pooled array. And how the tile's sixteen-lane loads and stores read in
  those terms.
-/
module

public import proofs.«01_k».proof.Proof.Base
public import Idealize.ShloMosaic.Lib.ValueIdx
public import Idealize.ShloMosaic.Lib.ValueLayout
public import Idealize.ShloMosaic.Lib.VecWindow
public import Idealize.ShloMosaic.Lib.Writes

@[expose] public section

noncomputable section

namespace Cert.Proof.Pool

open Cert.KernelIdeal Cert.KernelIdeal.Gen
open Idealize.ShloMosaic Idealize.ShloMosaic.ValueIdx

variable {F : FTy → Type} [FloatOps F] [Named F]

/-- Row `r`, column `c` of a block of fifty rows. -/
def cell {α : Type} (f : S50x128.Idx → α) (r c : ℕ) : α := f (ix2 (Fin.ofNat 50 r) (Fin.ofNat 128 c))

/-- The sum of column `c` over rows `0 … n`, row `0` first. -/
def colSum (f : S50x128.Idx → F .f32) (c : ℕ) : ℕ → F .f32
  | 0 => cell f 0 c
  | n + 1 => FloatOps.addf (colSum f c n) (cell f (n + 1) c)

/-- The kernel's scale: the number it multiplies a sum of fifty rows by. -/
def invS : F .f32 := Named.named κ "inv_s" 0x3CA3D70A#32

/-- The rows of the table that fifty tokens name. -/
def rowsAt (x : S100000x128.Idx → F .f32) (ids : ℕ → BitVec 32) : S50x128.Idx → F .f32 :=
  fun y => x (ix2 (Fin.ofNat 100000 (ids (y 0).val).toNat) (y 1))

/-- The pooled value of fifty tokens at column `c`. -/
def poolRow (x : S100000x128.Idx → F .f32) (ids : ℕ → BitVec 32) (c : ℕ) : F .f32 :=
  FloatOps.mulf (colSum (rowsAt x ids) c 49) invS

/-- The pooled array: every row of tokens pooled. -/
def pooled (ids : S1024x50.Idx → BitVec 32) (x : S100000x128.Idx → F .f32) : S1024x128.Idx → F .f32 :=
  fun y => poolRow x (fun j => ids (ix2 (y 0) (Fin.ofNat 50 j))) (y 1).val

/-- A tile's thirty-two rows of it, over the block of tokens the tile fetched. -/
def tilePooled (ids : S32x50.Idx → BitVec 32) (x : S100000x128.Idx → F .f32) : S32x128.Idx → F .f32 :=
  fun y => poolRow x (fun j => ids (ix2 (y 0) (Fin.ofNat 50 j))) (y 1).val

theorem tilePooled_at (ids : S32x50.Idx → BitVec 32) (x : S100000x128.Idx → F .f32) {y : S32x128.Idx} {r : Fin 32} {c : ℕ}
    (h0 : y 0 = r) (h1 : (y 1).val = c) : tilePooled ids x y = poolRow x (fun j => ids (ix2 r (Fin.ofNat 50 j))) c := by
  subst h0 h1; rfl

/-! ## The accumulators -/

/-- Sixteen lanes hold the sums of columns `b … b + 15` over rows `0 … n`. -/
def AccAt (f : S50x128.Idx → F .f32) (n b : ℕ) (a : FVec F S16 .f32) : Prop := ∀ y : S16.Idx, a y = colSum f (b + (y 0).val) n

/-- The eight accumulators of a row. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

def AccAll (f : S50x128.Idx → F .f32) (n : ℕ) (a : Acc8 F) : Prop :=
  AccAt f n 0 a.1 ∧ AccAt f n 16 a.2.1 ∧ AccAt f n 32 a.2.2.1 ∧ AccAt f n 48 a.2.2.2.1 ∧ AccAt f n 64 a.2.2.2.2.1
    ∧ AccAt f n 80 a.2.2.2.2.2.1 ∧ AccAt f n 96 a.2.2.2.2.2.2.1 ∧ AccAt f n 112 a.2.2.2.2.2.2.2

/-- A load of sixteen lanes at row `r`, column `b` of a block of fifty rows, lane by lane. -/
theorem load_lane {α : EltTy → Type} (f : S50x128.Idx → α .f32) (v : View sig .scVector .vmem S50x128 .f32) (g : v.ty.Contents α) (hf : v.read α g = f)
    {off : Fin 2 → ℕ} {r b : ℕ} (ho : off = ![r, b])
    (inb : ∀ a, off a + S1x16.size a ≤ S50x128.size a) (y : S16.Idx) :
    shapeCast S16 (v.readAt α (Rect.unit (s := S50x128) off S1x16.size inb).toLoadRect g) shapeCasts_S1x16_S16 y = cell f r (b + (y 0).val) := by
  subst hf ho
  have hr : r < 50 := by have := inb 0; simp at this; omega
  have hb : b + 16 ≤ 128 := by have := inb 1; simpa using this
  have hy : y = ix1 (y 0) := by funext a; match a with | 0 => rfl
  rw [hy]
  refine (shapeCast_1a_a_apply _ shapeCasts_S1x16_S16 (y 0)).trans ?_
  rw [View.readAt_unit v g inb rfl inb]
  show v.read α g _ = v.read α g _
  congr 1; funext a
  have h16 : (y 0).val < 16 := (y 0).isLt
  match a with
  | 0 => exact Fin.ext (by show r + 0 = r % 50; omega)
  | 1 => exact Fin.ext (by show b + 1 * (y 0).val = (b + (y 0).val) % 128; omega)

/-- The first row starts the sums; -/
theorem AccAt.init (f : S50x128.Idx → F .f32) (v : View sig .scVector .vmem S50x128 .f32) (g : v.ty.Contents (Elt F)) (hf : v.read (Elt F) g = f)
    {off : Fin 2 → ℕ} {b : ℕ} (ho : off = ![0, b]) (inb : ∀ a, off a + S1x16.size a ≤ S50x128.size a) :
    AccAt f 0 b (shapeCast S16 (v.readAt (Elt F) (Rect.unit (s := S50x128) off S1x16.size inb).toLoadRect g) shapeCasts_S1x16_S16) :=
  fun y => load_lane (α := Elt F) f v g hf ho inb y

/-- each further row adds to them. -/
theorem AccAt.step {f : S50x128.Idx → F .f32} {n b : ℕ} {a : FVec F S16 .f32} (h : AccAt f n b a)
    (v : View sig .scVector .vmem S50x128 .f32) (g : v.ty.Contents (Elt F)) (hf : v.read (Elt F) g = f)
    {off : Fin 2 → ℕ} (ho : off = ![n + 1, b]) (inb : ∀ a, off a + S1x16.size a ≤ S50x128.size a) :
    AccAt f (n + 1) b (addf a (shapeCast S16 (v.readAt (Elt F) (Rect.unit (s := S50x128) off S1x16.size inb).toLoadRect g) shapeCasts_S1x16_S16)) := by
  intro y
  show FloatOps.addf (a y) (shapeCast S16 _ _ y) = FloatOps.addf _ _
  rw [h y, load_lane (α := Elt F) f v g hf ho inb y]

/-- What a sum's lanes become when scaled and stored: the pooled row at its columns. -/
theorem AccAt.store {x : S100000x128.Idx → F .f32} {ids : S32x50.Idx → BitVec 32} {r : Fin 32} {b : ℕ} {a : FVec F S16 .f32}
    (h : AccAt (rowsAt x (fun j => ids (ix2 r (Fin.ofNat 50 j)))) 49 b a) {off : Fin 2 → ℕ} (ho : off = ![r.val, b])
    (inb : ∀ a, off a + S1x16.size a ≤ S32x128.size a) (z : S1x16.Idx) :
    shapeCast S1x16 (mulf a (broadcast S16 (Named.named κ "inv_s" 0x3CA3D70A#32 : F .f32))) shapeCasts_S16_S1x16 z
      = tilePooled ids x ((Rect.unit (s := S32x128) off S1x16.size inb).emb z) := by
  subst ho
  have hz : z = ix2 (z 0) (z 1) := by funext a; match a with | 0 => rfl | 1 => rfl
  have h0 : (z 0).val = 0 := by have : (z 0).val < 1 := (z 0).isLt; omega
  have hb : b + 16 ≤ 128 := by have := inb 1; simpa using this
  rw [hz]
  refine (shapeCast_a_1a_apply _ shapeCasts_S16_S1x16 (z 0) (z 1)).trans ?_
  refine Eq.trans ?_ (tilePooled_at ids x (r := r) (c := b + (z 1).val) (Fin.ext ?_) ?_).symm
  · exact congrArg (FloatOps.mulf · invS) (h (ix1 (z 1)))
  · show r.val + 1 * (z 0).val = r.val; omega
  · show b + 1 * (z 1).val = _; omega

/-! ## A pooled row as eight stores -/

/-- Stores that together write row `r` of the pooled block, and nothing else. -/
structure RowPieces (T : S32x128.Idx → F .f32) (r : ℕ) (P : List (View.Piece (Elt F) S32x128 .f32)) : Prop where
  agree : ∀ p ∈ P, ∀ z : p.1.shape.Idx, p.2 z = T (p.1.emb z)
  cover : ∀ y : S32x128.Idx, (y 0).val = r → ∃ p ∈ P, y ∈ p.1.set
  only : ∀ p ∈ P, ∀ y : S32x128.Idx, (y 0).val ≠ r → y ∉ p.1.set

/-- Sixteen lanes of row `r` from column `b`. -/
theorem mem_lanes {off : Fin 2 → ℕ} {r b : ℕ} (ho : off = ![r, b]) (inb : ∀ a, off a + S1x16.size a ≤ S32x128.size a) (y : S32x128.Idx)
    (h0 : (y 0).val = r) (h1 : b ≤ (y 1).val) (h2 : (y 1).val < b + 16) : y ∈ (Rect.unit (s := S32x128) off S1x16.size inb).set := by
  subst ho
  refine Rect.mem_set_unit.mpr fun a => ?_
  match a with
  | 0 => exact ⟨by show r ≤ (y 0).val; omega, by show (y 0).val < r + 1; omega⟩
  | 1 => exact ⟨h1, h2⟩

theorem not_mem_lanes {off : Fin 2 → ℕ} {r b : ℕ} (ho : off = ![r, b]) (inb : ∀ a, off a + S1x16.size a ≤ S32x128.size a) (y : S32x128.Idx)
    (h0 : (y 0).val ≠ r) : y ∉ (Rect.unit (s := S32x128) off S1x16.size inb).set := by
  subst ho
  intro hy
  have h := Rect.mem_set_unit.mp hy 0
  have h1 : r ≤ (y 0).val := h.1
  have h2 : (y 0).val < r + 1 := h.2
  omega

/-- A sum scaled and laid out as it is stored. -/
abbrev laneOut (a : FVec F S16 .f32) : FVec F S1x16 .f32 :=
  shapeCast S1x16 (mulf a (broadcast S16 (Named.named κ "inv_s" 0x3CA3D70A#32 : F .f32))) shapeCasts_S16_S1x16

theorem rowPieces {x : S100000x128.Idx → F .f32} {ids : S32x50.Idx → BitVec 32} {r : Fin 32} {a : Acc8 F}
    (h : AccAll (rowsAt x (fun j => ids (ix2 r (Fin.ofNat 50 j)))) 49 a) {o0 o1 o2 o3 o4 o5 o6 o7 : Fin 2 → ℕ}
    (e0 : o0 = ![r.val, 0]) (e1 : o1 = ![r.val, 16]) (e2 : o2 = ![r.val, 32]) (e3 : o3 = ![r.val, 48]) (e4 : o4 = ![r.val, 64])
    (e5 : o5 = ![r.val, 80]) (e6 : o6 = ![r.val, 96]) (e7 : o7 = ![r.val, 112])
    (i0 : ∀ a, o0 a + S1x16.size a ≤ S32x128.size a) (i1 : ∀ a, o1 a + S1x16.size a ≤ S32x128.size a)
    (i2 : ∀ a, o2 a + S1x16.size a ≤ S32x128.size a) (i3 : ∀ a, o3 a + S1x16.size a ≤ S32x128.size a)
    (i4 : ∀ a, o4 a + S1x16.size a ≤ S32x128.size a) (i5 : ∀ a, o5 a + S1x16.size a ≤ S32x128.size a)
    (i6 : ∀ a, o6 a + S1x16.size a ≤ S32x128.size a) (i7 : ∀ a, o7 a + S1x16.size a ≤ S32x128.size a) :
    RowPieces (tilePooled ids x) r.val
      [⟨Rect.unit o7 S1x16.size i7, laneOut a.2.2.2.2.2.2.2⟩, ⟨Rect.unit o6 S1x16.size i6, laneOut a.2.2.2.2.2.2.1⟩,
        ⟨Rect.unit o5 S1x16.size i5, laneOut a.2.2.2.2.2.1⟩, ⟨Rect.unit o4 S1x16.size i4, laneOut a.2.2.2.2.1⟩,
        ⟨Rect.unit o3 S1x16.size i3, laneOut a.2.2.2.1⟩, ⟨Rect.unit o2 S1x16.size i2, laneOut a.2.2.1⟩,
        ⟨Rect.unit o1 S1x16.size i1, laneOut a.2.1⟩, ⟨Rect.unit o0 S1x16.size i0, laneOut a.1⟩] where
  agree := by
    simp only [List.forall_mem_cons]
    exact ⟨h.2.2.2.2.2.2.2.store e7 i7, h.2.2.2.2.2.2.1.store e6 i6, h.2.2.2.2.2.1.store e5 i5, h.2.2.2.2.1.store e4 i4,
      h.2.2.2.1.store e3 i3, h.2.2.1.store e2 i2, h.2.1.store e1 i1, h.1.store e0 i0, fun _ hp => absurd hp List.not_mem_nil⟩
  cover := fun y hy => by
    have h128 : (y 1).val < 128 := (y 1).isLt
    simp only [List.exists_mem_cons_iff]
    by_cases c7 : 112 ≤ (y 1).val
    · exact .inl (mem_lanes e7 i7 y hy c7 (by omega))
    refine .inr ?_
    by_cases c6 : 96 ≤ (y 1).val
    · exact .inl (mem_lanes e6 i6 y hy c6 (by omega))
    refine .inr ?_
    by_cases c5 : 80 ≤ (y 1).val
    · exact .inl (mem_lanes e5 i5 y hy c5 (by omega))
    refine .inr ?_
    by_cases c4 : 64 ≤ (y 1).val
    · exact .inl (mem_lanes e4 i4 y hy c4 (by omega))
    refine .inr ?_
    by_cases c3 : 48 ≤ (y 1).val
    · exact .inl (mem_lanes e3 i3 y hy c3 (by omega))
    refine .inr ?_
    by_cases c2 : 32 ≤ (y 1).val
    · exact .inl (mem_lanes e2 i2 y hy c2 (by omega))
    refine .inr ?_
    by_cases c1 : 16 ≤ (y 1).val
    · exact .inl (mem_lanes e1 i1 y hy c1 (by omega))
    exact .inr (.inl (mem_lanes e0 i0 y hy (by omega) (by omega)))
  only := by
    simp only [List.forall_mem_cons]
    exact ⟨not_mem_lanes e7 i7, not_mem_lanes e6 i6, not_mem_lanes e5 i5, not_mem_lanes e4 i4, not_mem_lanes e3 i3,
      not_mem_lanes e2 i2, not_mem_lanes e1 i1, not_mem_lanes e0 i0, fun _ hp => absurd hp List.not_mem_nil⟩

/-- Two more rows stored over a block whose first `n` rows are pooled. -/
theorem RowPieces.two {T : S32x128.Idx → F .f32} {n : ℕ} {P Q : List (View.Piece (Elt F) S32x128 .f32)} (hP : RowPieces T (n + 1) P)
    (hQ : RowPieces T n Q) (v : View sig .scVector .vmem S32x128 .f32) (f : v.ty.Contents (Elt F))
    (h : ∀ y : S32x128.Idx, (y 0).val < n → v.read (Elt F) f y = T y) (y : S32x128.Idx) (hy : (y 0).val < n + 2) :
    v.read (Elt F) (v.writes (Elt F) f (P ++ Q)) y = T y := by
  by_cases hn : (y 0).val < n
  · rw [View.read_writes_apply_of_forall_not_mem]
    · exact h y hn
    · intro p hp
      rcases List.mem_append.mp hp with hp | hp
      · exact hP.only p hp y (by omega)
      · exact hQ.only p hp y (by omega)
  refine View.read_writes_apply_of_pieces v f T _ (fun p hp => ?_) y ?_
  · rcases List.mem_append.mp hp with hp | hp
    · exact hP.agree p hp
    · exact hQ.agree p hp
  · by_cases hn' : (y 0).val = n
    · obtain ⟨p, hp, h⟩ := hQ.cover y hn'
      exact ⟨p, List.mem_append.mpr (.inr hp), h⟩
    · obtain ⟨p, hp, h⟩ := hP.cover y (by omega)
      exact ⟨p, List.mem_append.mpr (.inl hp), h⟩

end Cert.Proof.Pool

end
-- ==== Proof.TileRes.lean ====
/-
  What a tile holds when its task starts: its rows of the token table and of the pooled array as it addresses them, its
  share of the embedding table, its four scratch buffers, its four DMA semaphores at zero.
-/
module

public import proofs.«01_k».proof.Proof.Rows

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
/-- The tile's thread. -/
abbrev tV (d : Dev nD) (L : grid0.Coords) : Thread nD τ := V d (cV L) (jV L)

theorem wL_lt (L : grid0.Coords) : 2 * (L 1).val + (L 0).val < 32 := by
  have h0 : (L 0).val < 2 := (L 0).isLt
  have h1 : (L 1).val < 16 := (L 1).isLt
  omega
/-- The tile's number. -/
abbrev wL (L : grid0.Coords) : Fin 32 := ⟨2 * (L 1).val + (L 0).val, wL_lt L⟩

abbrev irowK (L : grid0.Coords) : Rect S1024x50 := Rect.unit (s := S1024x50) (k0_off1 L) S32x50.size (k0_off1_inb L)
abbrev orowK (L : grid0.Coords) : Rect S1024x128 := Rect.unit (s := S1024x128) (k0_off36 L) S32x128.size (k0_off36_inb L)
abbrev iRowK (L : grid0.Coords) : Memref sig .scVector .hbm S32x50 .i32 := iV.slice (irowK L) (fun _ => rfl)
abbrev oRowK (L : grid0.Coords) : Memref sig .scVector .hbm S32x128 .f32 := oV.slice (orowK L) (fun _ => rfl)
abbrev xAllK : Memref sig .scVector .hbm S100000x128 .f32 :=
  xV.slice (Rect.unit (s := S100000x128) ![0, 0] S100000x128.size inb_S100000x128_S100000x128_0_0) (fun _ => rfl)

theorem irowK_eq : irowK L = irow (wL L) := by
  unfold irowK irow Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]
theorem orowK_eq : orowK L = orow (wL L) := by
  unfold orowK orow Rect.part Rect.block
  congr 1 <;> funext a
  · rw [k0_off36_eq]
    match a with
    | 0 => simp [Shape.partIx, Shape.partSize]; omega
    | 1 => simp [Shape.partIx, Shape.partSize]
  · match a with
    | 0 => simp [Shape.partSize]
    | 1 => simp [Shape.partSize]

theorem set_iRowK : (iRowK L).view.set = iRowSet (wL L) := by
  show (iV.view.slice (irowK L)).set = (iV.view.slice (irow (wL L))).set
  exact irowK_eq L ▸ rfl
theorem set_oRowK : (oRowK L).view.set = oRowSet (wL L) := by
  show (oV.view.slice (orowK L)).set = (oV.view.slice (orow (wL L))).set
  exact orowK_eq L ▸ rfl

theorem pts_iRowK (f : Buf (Elt F) (iLoc d)) :
    ((iRowK L).view.loc (tV d L) ↦[(iRowK L).view.set]{fullShare} f : sProp 𝕄) = iLoc d ↦[iRowSet (wL L)]{fullShare} f := by
  rw [set_iRowK]
theorem pts_oRowK (f : Buf (Elt F) (oLoc d)) :
    ((oRowK L).view.loc (tV d L) ↦[(oRowK L).view.set]{fullShare} f : sProp 𝕄) = oLoc d ↦[oRowSet (wL L)]{fullShare} f := by
  rw [set_oRowK]

/-! ## The semaphores and the scratch buffers -/

/-- The tile's DMA semaphore number `k`. -/
abbrev cellV (d : Dev nD) (c : Fin τ.nSC) (i : Fin τ.nSub) (s : DmaSem sig) : GSem nD τ sig := (V d c i, .dma s)

def cellSet (d : Dev nD) (c : Fin τ.nSC) (i : Fin τ.nSub) : Finset (GSem nD τ sig) :=
  {cellV d c i cc0_scratch4.sem, cellV d c i cc0_scratch5.sem, cellV d c i cc0_scoped0.sem, cellV d c i cc0_scoped1.sem}

theorem cellV_ne (c : Fin τ.nSC) (i : Fin τ.nSub) {s s' : DmaSem sig} (h : s ≠ s') : cellV d c i s ≠ cellV d c i s' := fun e =>
  h (by have := congrArg (fun g : GSem nD τ sig => g.2) e; exact SemLoc.dma.inj this)

theorem ownSems0_V (c : Fin τ.nSC) (i : Fin τ.nSub) :
    (ownSems0 (V d c i) : sProp 𝕄)
      = iprop((semVal (cellV d c i cc0_scratch4.sem) 0 ∗ semVal (cellV d c i cc0_scratch5.sem) 0
            ∗ semVal (cellV d c i cc0_scoped0.sem) 0 ∗ semVal (cellV d c i cc0_scoped1.sem) 0)
          ∗ bigSep (ownCells (V d c i) \ cellSet d c i) fun g => semVal g 0) := by
  unfold SparseCore.Cfg.ownSems0
  rw [SparseCore.bigSep_sdiff_split' (show cellSet d c i ⊆ ownCells (V d c i) by
    intro g hg
    simp only [cellSet, Finset.mem_insert, Finset.mem_singleton] at hg
    rcases hg with rfl | rfl | rfl | rfl
    · exact mem_ownCells.mpr ⟨rfl, by show (SemLoc.dma cc0_scratch4.sem : SemLoc sig).isScoped .scVector = true; decide⟩
    · exact mem_ownCells.mpr ⟨rfl, by show (SemLoc.dma cc0_scratch5.sem : SemLoc sig).isScoped .scVector = true; decide⟩
    · exact mem_ownCells.mpr ⟨rfl, by show (SemLoc.dma cc0_scoped0.sem : SemLoc sig).isScoped .scVector = true; decide⟩
    · exact mem_ownCells.mpr ⟨rfl, by show (SemLoc.dma cc0_scoped1.sem : SemLoc sig).isScoped .scVector = true; decide⟩)]
  congr 1
  unfold cellSet
  rw [SparseCore.bigSep_insert' (by
      simp only [Finset.mem_insert, Finset.mem_singleton, not_or]
      exact ⟨cellV_ne d c i (by decide), cellV_ne d c i (by decide), cellV_ne d c i (by decide)⟩),
    SparseCore.bigSep_insert' (by
      simp only [Finset.mem_insert, Finset.mem_singleton, not_or]
      exact ⟨cellV_ne d c i (by decide), cellV_ne d c i (by decide)⟩),
    SparseCore.bigSep_insert' (by
      simp only [Finset.mem_singleton]
      exact cellV_ne d c i (by decide)), bigSep_singleton]

def refSet (c : Fin τ.nSC) (i : Fin τ.nSub) : Finset (DevRef τ sig) :=
  {(Proc.scVector c i).devRef cc0_scratch0, (Proc.scVector c i).devRef cc0_scratch1,
    (Proc.scVector c i).devRef cc0_scratch2, (Proc.scVector c i).devRef cc0_scratch3}

theorem ref_ne (c : Fin τ.nSC) (i : Fin τ.nSub) {b b' : Ref sig .scVector} (h : b ≠ b') :
    (Proc.scVector c i : Proc τ).devRef b ≠ (Proc.scVector c i).devRef b' := fun e => h (Proc.devRef_injective _ e)

theorem ownBufs_V (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f) ∗ (∃ f, (V d c i).loc cc0_scratch3 ↦{fullShare} f))
          ∗ bigSep (ownRefs (τ := τ) (.scVector c i) \ refSet c i) fun b => iprop(∃ f, ((d, b) : Loc nD τ sig) ↦{fullShare} f)) := by
  unfold SparseCore.Cfg.ownBufs
  refine (SparseCore.bigSep_sdiff_split' (t := refSet c i) (show refSet c i ⊆ ownRefs (τ := τ) (.scVector c i) by
    intro b hb
    simp only [refSet, Finset.mem_insert, Finset.mem_singleton] at hb
    rcases hb with rfl | rfl | rfl | rfl <;> exact SparseCore.Cfg.mem_ownRefs_of_owner rfl)).trans ?_
  congr 1
  unfold refSet
  rw [SparseCore.bigSep_insert' (by
      simp only [Finset.mem_insert, Finset.mem_singleton, not_or]
      exact ⟨ref_ne c i (by decide), ref_ne c i (by decide), ref_ne c i (by decide)⟩),
    SparseCore.bigSep_insert' (by
      simp only [Finset.mem_insert, Finset.mem_singleton, not_or]
      exact ⟨ref_ne c i (by decide), ref_ne c i (by decide)⟩),
    SparseCore.bigSep_insert' (by
      simp only [Finset.mem_singleton]
      exact ref_ne c i (by decide)), bigSep_singleton]

end Cert.Proof.Pool

end
-- ==== Proof.Trip.lean ====
/-
  One trip of a tile's loop: the rows of the embedding table that two rows of tokens name, gathered into the two row
  buffers, summed column by column, scaled, and stored into two rows of the result buffer.
-/
module

public import proofs.«01_k».proof.Proof.TileRes

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-- Row `r` of the fetched tokens, as an indirect copy's list. -/
abbrev listK (off : Fin 2 → ℕ) (inb : ∀ a, off a + S1x50.size a ≤ S32x50.size a) : Memref sig .scVector .vmem S50 .i32 :=
  (sV.slice (Rect.unit (s := S32x50) off S1x50.size inb) (fun _ => rfl)).squeeze S50 squeezes_S1x50_S50

theorem list_read (f5 : S32x50.Idx → BitVec 32) {off : Fin 2 → ℕ} {r : Fin 32} (ho : off = ![r.val, 0])
    (inb : ∀ a, off a + S1x50.size a ≤ S32x50.size a) (x : S50.Idx) :
    (listK off inb).view.read (Elt F) f5 x = f5 (ix2 r (x 0)) := by
  subst ho
  refine ((View.read_apply _ _).trans (cast_eq _ _)).trans (congrArg f5 ?_)
  show (Rect.unit (s := S32x50) ![r.val, 0] S1x50.size inb).emb (Shape.reshapeEquiv squeezes_S1x50_S50.numel_eq x) = _
  have e : Shape.reshapeEquiv squeezes_S1x50_S50.numel_eq x = (ix2 (0 : Fin 1) (x 0) : S1x50.Idx) :=
    Shape.reshapeEquiv_eq_of_rowMajor _ (by
      rw [Shape.rowMajor_val_two, Shape.rowMajor_val_one]
      show 0 * 50 + (x 0).val = (x 0).val; omega)
  rw [e]; funext a
  match a with
  | 0 => exact Fin.ext (by show r.val + 1 * 0 = r.val; omega)
  | 1 => exact Fin.ext (by show 0 + 1 * (x 0).val = (x 0).val; omega)

/-- Every row of tokens names rows of the table. -/
theorem list_hin {f5 : S32x50.Idx → BitVec 32} (h5 : ∀ y, (f5 y).toNat < 100000) {off : Fin 2 → ℕ} {r : Fin 32} (ho : off = ![r.val, 0])
    (inb : ∀ a, off a + S1x50.size a ≤ S32x50.size a) :
    ∀ x, ((listK off inb).view.read (Elt F) f5 x).toNat < S100000x128.size gathers_S100000x128_S50x128.axis := fun x => by
  rw [list_read f5 ho inb x]; exact h5 _

/-- What an indirect copy brings: the named rows of the table. -/
theorem gather_rows {f5 : S32x50.Idx → BitVec 32} (h5 : ∀ y, (f5 y).toNat < 100000) (x : S100000x128.Idx → F .f32)
    {off : Fin 2 → ℕ} {r : Fin 32} (ho : off = ![r.val, 0]) (inb : ∀ a, off a + S1x50.size a ≤ S32x50.size a) (hn)
    (hin : ∀ x, ((listK off inb).view.read (Elt F) f5 x).toNat < S100000x128.size gathers_S100000x128_S50x128.axis) :
    SparseCore.gatherPayload gathers_S100000x128_S50x128 (xAllK.view.read (Elt F) x)
        (SparseCore.rows ((listK off inb).view.read (Elt F) f5) hn hin)
      = rowsAt x (fun j => f5 (ix2 r (Fin.ofNat 50 j))) := by
  funext y
  unfold SparseCore.gatherPayload rowsAt
  refine ((View.read_apply _ _).trans (cast_eq _ _)).trans (congrArg x ?_)
  funext a
  match a with
  | 0 =>
    refine Fin.ext ?_
    show 0 + 1 * ((listK off inb).view.read (Elt F) f5 (S50.rowMajor.symm ((y 0).cast _))).toNat = _
    rw [list_read f5 ho inb]
    have e : (S50.rowMajor.symm ((y 0).cast (by rfl))) 0 = Fin.ofNat 50 (y 0).val := by
      have hy : (y 0).val < 50 := (y 0).isLt
      refine Fin.ext ?_
      have := Shape.rowMajor_val_one (S50.rowMajor.symm ((y 0).cast (by rfl)))
      rw [← this, Equiv.apply_symm_apply]
      show (y 0).val = (y 0).val % 50; omega
    erw [e]
    have := h5 (ix2 r (Fin.ofNat 50 (y 0).val))
    show 0 + 1 * (f5 (ix2 r (Fin.ofNat 50 (y 0).val))).toNat = (f5 (ix2 r (Fin.ofNat 50 (y 0).val))).toNat % 100000
    omega
  | 1 => exact Fin.ext (by show 0 + 1 * (y 1).val = (y 1).val; omega)

/-! ## The sums over a row buffer -/

/-- While a row buffer is summed: the accumulators hold the sums so far, the buffer is read only. -/
def sumInv (v : Memref sig (tV d L).2.kind .vmem S50x128 .f32) (f : Buf (Elt F) (v.view.loc (tV d L))) (G : S50x128.Idx → F .f32)
    (n : Nat) (a : Acc8 F) : sProp 𝕄 :=
  iprop(⌜AccAll G n a⌝ ∗ v.view.loc (tV d L) ↦{fullShare} f)

theorem sum_a (f : S50x128.Idx → F .f32) (k : Fin k0_t1_loop.trips) (v : BitVec 32) (a1 a2 a3 a4 a5 a6 : FVec F S16 .f32) (w : Vec F S1x16 .f32)
    (n : Fin k0_t2_loop.trips) (acc : Acc8 F) :
    sumInv (F := F) d L aV f f n.val acc
      ⊢ wp frame (wpE (defs₀ (F := F)) 𝒱₀ (tV d L) none) Set.univ
          (k0_t2_body L iV (Memref.isWhole_whole _) xV (Memref.isWhole_whole _) oV (Memref.isWhole_whole _) sV (Memref.isWhole_whole _)
            aV (Memref.isWhole_whole _) bV (Memref.isWhole_whole _) rV (Memref.isWhole_whole _) cc0_scratch4 cc0_scratch5 cc0_scoped0 cc0_scoped1
            k v a1 a2 a3 a4 a5 a6 w n acc)
          fun acc' => sumInv (F := F) d L aV f f (n.val + 1) acc' := by
  unfold sumInv k0_t2_body
  iintro ⟨%hacc, H⟩
  sl_exec
  sl_step
  isplitr
  · ipureintro
    exact ⟨AccAt.step hacc.1 aV.view f rfl (k0_off4_eq n) (k0_off4_inb n),
      AccAt.step hacc.2.1 aV.view f rfl (k0_off5_eq n) (k0_off5_inb n),
      AccAt.step hacc.2.2.1 aV.view f rfl (k0_off6_eq n) (k0_off6_inb n),
      AccAt.step hacc.2.2.2.1 aV.view f rfl (k0_off7_eq n) (k0_off7_inb n),
      AccAt.step hacc.2.2.2.2.1 aV.view f rfl (k0_off8_eq n) (k0_off8_inb n),
      AccAt.step hacc.2.2.2.2.2.1 aV.view f rfl (k0_off9_eq n) (k0_off9_inb n),
      AccAt.step hacc.2.2.2.2.2.2.1 aV.view f rfl (k0_off10_eq n) (k0_off10_inb n),
      AccAt.step hacc.2.2.2.2.2.2.2 aV.view f rfl (k0_off11_eq n) (k0_off11_inb n)⟩
  · iexact H

theorem sum_b (f : S50x128.Idx → F .f32) (k : Fin k0_t1_loop.trips) (v : BitVec 32) (a1 a2 a3 a4 a5 : FVec F S16 .f32) (w : Vec F S1x16 .f32)
    (n : Fin k0_t3_loop.trips) (acc : Acc8 F) :
    sumInv (F := F) d L bV f f n.val acc
      ⊢ wp frame (wpE (defs₀ (F := F)) 𝒱₀ (tV d L) none) Set.univ
          (k0_t3_body L iV (Memref.isWhole_whole _) xV (Memref.isWhole_whole _) oV (Memref.isWhole_whole _) sV (Memref.isWhole_whole _)
            aV (Memref.isWhole_whole _) bV (Memref.isWhole_whole _) rV (Memref.isWhole_whole _) cc0_scratch4 cc0_scratch5 cc0_scoped0 cc0_scoped1
            k v a1 a2 a3 a4 a5 w n acc)
          fun acc' => sumInv (F := F) d L bV f f (n.val + 1) acc' := by
  unfold sumInv k0_t3_body
  iintro ⟨%hacc, H⟩
  sl_exec
  sl_step
  isplitr
  · ipureintro
    exact ⟨AccAt.step hacc.1 bV.view f rfl (k0_off20_eq n) (k0_off20_inb n),
      AccAt.step hacc.2.1 bV.view f rfl (k0_off21_eq n) (k0_off21_inb n),
      AccAt.step hacc.2.2.1 bV.view f rfl (k0_off22_eq n) (k0_off22_inb n),
      AccAt.step hacc.2.2.2.1 bV.view f rfl (k0_off23_eq n) (k0_off23_inb n),
      AccAt.step hacc.2.2.2.2.1 bV.view f rfl (k0_off24_eq n) (k0_off24_inb n),
      AccAt.step hacc.2.2.2.2.2.1 bV.view f rfl (k0_off25_eq n) (k0_off25_inb n),
      AccAt.step hacc.2.2.2.2.2.2.1 bV.view f rfl (k0_off26_eq n) (k0_off26_inb n),
      AccAt.step hacc.2.2.2.2.2.2.2 bV.view f rfl (k0_off27_eq n) (k0_off27_inb n)⟩
  · iexact H

/-- What holds before trip `n`: the fetched tokens, the tile's share of the table, the row buffers at some contents, the
    result buffer's first `2 n` rows pooled, the gathers' semaphores at zero. -/
def tripInv (m : (ℓ : Loc nD τ sig) → Buf (Elt F) ℓ) (f5 : Buf (Elt F) ((tV d L).loc cc0_scratch0))
    (O : CellTallies nD τ sig (HIx 1)) (W : Waits sig (HIx 1)) (n : Nat) (_ : Unit) : sProp 𝕄 :=
  iprop(Transfers.MayWaits (tV d L) (none : HIx 1) O
    ∗ (sV.view.loc (tV d L) ↦{fullShare} f5)
    ∗ (xV.view.loc (tV d L) ↦{xq (wL L)} m (xLoc d))
    ∗ (∃ f, aV.view.loc (tV d L) ↦{fullShare} f)
    ∗ (∃ f, bV.view.loc (tV d L) ↦{fullShare} f)
    ∗ (∃ f, ⌜∀ y : S32x128.Idx, (y 0).val < 2 * n → rV.view.read (Elt F) f y = tilePooled (F := F) f5 (m (xLoc d)) y⌝ ∗ rV.view.loc (tV d L) ↦{fullShare} f)
    ∗ semVal (tV d L, SemLoc.dma cc0_scratch4.sem) 0
    ∗ semVal (tV d L, SemLoc.dma cc0_scratch5.sem) 0
    ∗ ∃ W', ⌜∀ p ∈ W', p ∈ W ∨ p.2 = none⌝ ∗ owes (tV d L) O W')

set_option maxHeartbeats 4000000 in
theorem trip (m : (ℓ : Loc nD τ sig) → Buf (Elt F) ℓ) (f5 : Buf (Elt F) ((tV d L).loc cc0_scratch0))
    (h5 : ∀ y : S32x50.Idx, (f5 y : BitVec 32).toNat < 100000)
    (O : CellTallies nD τ sig (HIx 1)) (W : Waits sig (HIx 1)) (k : Fin k0_t1_loop.trips) (u : Unit) :
    tripInv d L m f5 O W k.val u
      ⊢ wp frame (wpE (defs₀ (F := F)) 𝒱₀ (tV d L) none) Set.univ
          (k0_t1_body L iV (Memref.isWhole_whole _) xV (Memref.isWhole_whole _) oV (Memref.isWhole_whole _) sV (Memref.isWhole_whole _)
            aV (Memref.isWhole_whole _) bV (Memref.isWhole_whole _) rV (Memref.isWhole_whole _) cc0_scratch4 cc0_scratch5 cc0_scoped0 cc0_scoped1 k u)
          fun u' => tripInv d L m f5 O W (k.val + 1) u' := by
  unfold k0_t1_body
  simp only [k0_part1_eq_skeleton, k0_part2_eq_skeleton, k0_part3_eq_skeleton, k0_part4_eq_skeleton]
  unfold k0_part1_skel k0_part2_skel k0_part3_skel k0_part4_skel
  simp only [Prog.bind_assoc, bind_assoc, pure_bind]
  unfold tripInv
  iintro ⟨#Hmw, H5, Hx, ⟨%f6, H6⟩, ⟨%f7, H7⟩, ⟨%f8, %h8, H8⟩, Hs9, Hs10, %W', %hW', HO⟩
  -- the tokens and the table, a half for each gather
  ihave H5s := (pointsTo_share (PosShare.mem_left_op_right fullShare)).1 $$ H5
  icases H5s with ⟨H5l, H5r⟩
  ihave Hxs := (pointsTo_share (PosShare.mem_left_op_right (xq (wL L)))).1 $$ Hx
  icases Hxs with ⟨Hxl, Hxr⟩
  ihave H5l := (pointsTo_split_subset (q := fullShare.left) (f := f5) (S := Finset.univ)
    (Finset.subset_univ (listK (k0_off2 k) (k0_off2_inb k)).view.set)).1 $$ H5l
  icases H5l with ⟨H5l, H5l'⟩
  ihave H5r := (pointsTo_split_subset (q := fullShare.right) (f := f5) (S := Finset.univ)
    (Finset.subset_univ (listK (k0_off3 k) (k0_off3_inb k)).view.set)).1 $$ H5r
  icases H5r with ⟨H5r, H5r'⟩
  ihave Hxl := (pointsTo_split_subset (q := (xq (wL L)).left) (f := m (xLoc d)) (S := Finset.univ) (Finset.subset_univ (xAllK).view.set)).1 $$ Hxl
  icases Hxl with ⟨Hxl, Hxl'⟩
  ihave Hxr := (pointsTo_split_subset (q := (xq (wL L)).right) (f := m (xLoc d)) (S := Finset.univ) (Finset.subset_univ (xAllK).view.set)).1 $$ Hxr
  icases Hxr with ⟨Hxr, Hxr'⟩
  have has : aV.view.set = Finset.univ := View.set_whole _
  have hbs : bV.view.set = Finset.univ := View.set_whole _
  ihave H6 := (Entails.of_eq (show (aV.view.loc (tV d L) ↦{fullShare} f6 : sProp 𝕄)
      = aV.view.loc (tV d L) ↦[aV.view.set]{fullShare} f6 by rw [has])) $$ H6
  ihave H7 := (Entails.of_eq (show (bV.view.loc (tV d L) ↦{fullShare} f7 : sProp 𝕄)
      = bV.view.loc (tV d L) ↦[bV.view.set]{fullShare} f7 by rw [hbs])) $$ H7
  have hNa : ∀ h : S100000x128.Gathers 0 S50x128, ∑ j, (aV.slice (S50x128.rowRect h.axis' j) (S50x128.stride_rowRect h.axis' j)).view.dmaCredit
      = aV.view.dmaCredit := by decide
  have hNb : ∀ h : S100000x128.Gathers 0 S50x128, ∑ j, (bV.slice (S50x128.rowRect h.axis' j) (S50x128.stride_rowRect h.axis' j)).view.dmaCredit
      = bV.view.dmaCredit := by decide
  have hk : 2 * k.val + 1 < 32 := by have : k.val < 16 := k.isLt; omega
  have hina := list_hin (F := F) h5 (r := ⟨2 * k.val, by omega⟩) (k0_off2_eq k) (k0_off2_inb k)
  have hinb := list_hin (F := F) h5 (r := ⟨2 * k.val + 1, hk⟩) (k0_off3_eq k) (k0_off3_inb k)
  iapply (SparseCore.wp_indirectGatherLocal countersEmb 𝒱₀ (tV d L) none (hg := gathers_S100000x128_S50x128) (default : HIx 1)
      aV.view.dmaCredit (hNa _) (by decide) hina) $$ [Hxl H6 H5l Hs9]
  · isplitl [Hxl]; · iexact Hxl
    isplitl [H6]; · iexact H6
    isplitl [H5l]; · iexact H5l
    iexact Hs9
  iintro Hfa
  iapply (SparseCore.wp_indirectGatherLocal countersEmb 𝒱₀ (tV d L) none (hg := gathers_S100000x128_S50x128) (default : HIx 1)
      bV.view.dmaCredit (hNb _) (by decide) hinb) $$ [Hxr H7 H5r Hs10]
  · isplitl [Hxr]; · iexact Hxr
    isplitl [H7]; · iexact H7
    isplitl [H5r]; · iexact H5r
    iexact Hs10
  iintro Hfb
  iapply (Transfers.wp_waitLocalO countersEmb 𝒱₀ (tV d L) none (default : HIx 1) (rfl : aV.view.dmaCredit = _)) $$ [Hfa HO]
  · isplitl [Hfa]; · iexact Hfa
    isplitl [HO]; · iexact HO
    iapply (Transfers.MayWaits.elim (SemLoc.dma cc0_scratch4.sem)) $$ Hmw
  iintro ⟨⟨H6, Hxl, H5l⟩, Hs9, HO⟩
  ihave H6 := (Entails.of_eq (show (aV.view.loc (tV d L) ↦[aV.view.set]{fullShare} _ : sProp 𝕄)
      = aV.view.loc (tV d L) ↦{fullShare} (rowsAt (F := F) (m (xLoc d)) (fun j => f5 (ix2 (⟨2 * k.val, by omega⟩ : Fin 32) (Fin.ofNat 50 j)))) by
        rw [has]
        refine congrArg (fun g => (aV.view.loc (tV d L) ↦{fullShare} g : sProp 𝕄)) ((View.write_whole_univ (Val := Elt F) cc0_scratch1 f6 _).trans ?_)
        exact gather_rows (F := F) (f5 := f5) h5 (m (xLoc d)) (r := ⟨2 * k.val, by omega⟩) (k0_off2_eq k) (k0_off2_inb k) _ hina)) $$ H6
  dsimp -proj only [Prog.bind]
  sl_exec
  set G : S50x128.Idx → F .f32 := rowsAt (F := F) (m (xLoc d)) (fun j => f5 (ix2 (⟨2 * k.val, by omega⟩ : Fin 32) (Fin.ofNat 50 j))) with hG
  sl_for (sumInv (F := F) d L aV G G) $$ [H6]
  case region =>
    intro n acc
    exact sum_a (F := F) d L G k _ _ _ _ _ _ _ _ n acc
  · unfold sumInv
    isplitr
    · ipureintro
      exact ⟨AccAt.init G aV.view G rfl rfl _, AccAt.init G aV.view G rfl rfl _, AccAt.init G aV.view G rfl rfl _,
        AccAt.init G aV.view G rfl rfl _, AccAt.init G aV.view G rfl rfl _, AccAt.init G aV.view G rfl rfl _,
        AccAt.init G aV.view G rfl rfl _, AccAt.init G aV.view G rfl rfl _⟩
    · iexact H6
  iintro %acc HI
  unfold sumInv
  icases HI with ⟨%hacc, H6⟩
  sl_exec
  iapply (Transfers.wp_waitLocalO countersEmb 𝒱₀ (tV d L) none (default : HIx 1) (rfl : bV.view.dmaCredit = _)) $$ [Hfb HO]
  · isplitl [Hfb]; · iexact Hfb
    isplitl [HO]; · iexact HO
    iapply (Transfers.MayWaits.elim (SemLoc.dma cc0_scratch5.sem)) $$ Hmw
  iintro ⟨⟨H7, Hxr, H5r⟩, Hs10, HO⟩
  ihave H7 := (Entails.of_eq (show (bV.view.loc (tV d L) ↦[bV.view.set]{fullShare} _ : sProp 𝕄)
      = bV.view.loc (tV d L) ↦{fullShare} (rowsAt (F := F) (m (xLoc d)) (fun j => f5 (ix2 (⟨2 * k.val + 1, hk⟩ : Fin 32) (Fin.ofNat 50 j)))) by
        rw [hbs]
        refine congrArg (fun g => (bV.view.loc (tV d L) ↦{fullShare} g : sProp 𝕄)) ((View.write_whole_univ (Val := Elt F) cc0_scratch2 f7 _).trans ?_)
        exact gather_rows (F := F) (f5 := f5) h5 (m (xLoc d)) (r := ⟨2 * k.val + 1, hk⟩) (k0_off3_eq k) (k0_off3_inb k) _ hinb)) $$ H7
  try dsimp -proj only [Prog.bind]
  sl_exec
  set G' : S50x128.Idx → F .f32 := rowsAt (F := F) (m (xLoc d)) (fun j => f5 (ix2 (⟨2 * k.val + 1, hk⟩ : Fin 32) (Fin.ofNat 50 j))) with hG'
  sl_for (sumInv (F := F) d L bV G' G') $$ [H7]
  case region =>
    intro n acc
    exact sum_b (F := F) d L G' k _ _ _ _ _ _ _ n acc
  · unfold sumInv
    isplitr
    · ipureintro
      exact ⟨AccAt.init G' bV.view G' rfl rfl _, AccAt.init G' bV.view G' rfl rfl _, AccAt.init G' bV.view G' rfl rfl _,
        AccAt.init G' bV.view G' rfl rfl _, AccAt.init G' bV.view G' rfl rfl _, AccAt.init G' bV.view G' rfl rfl _,
        AccAt.init G' bV.view G' rfl rfl _, AccAt.init G' bV.view G' rfl rfl _⟩
    · iexact H7
  iintro %acc' HI
  unfold sumInv
  icases HI with ⟨%hacc', H7⟩
  sl_exec
  sl_step
  -- the halves together again
  ihave H5l := (pointsTo_split_subset (q := fullShare.left) (f := f5) (S := Finset.univ)
    (Finset.subset_univ (listK (k0_off2 k) (k0_off2_inb k)).view.set)).2 $$ [H5l H5l']; · isplitl [H5l] <;> iassumption
  ihave H5r := (pointsTo_split_subset (q := fullShare.right) (f := f5) (S := Finset.univ)
    (Finset.subset_univ (listK (k0_off3 k) (k0_off3_inb k)).view.set)).2 $$ [H5r H5r']; · isplitl [H5r] <;> iassumption
  ihave H5 := (pointsTo_share (PosShare.mem_left_op_right fullShare)).2 $$ [H5l H5r]; · isplitl [H5l] <;> iassumption
  ihave Hxl := (pointsTo_split_subset (q := (xq (wL L)).left) (f := m (xLoc d)) (S := Finset.univ) (Finset.subset_univ (xAllK).view.set)).2 $$ [Hxl Hxl']
  · isplitl [Hxl] <;> iassumption
  ihave Hxr := (pointsTo_split_subset (q := (xq (wL L)).right) (f := m (xLoc d)) (S := Finset.univ) (Finset.subset_univ (xAllK).view.set)).2 $$ [Hxr Hxr']
  · isplitl [Hxr] <;> iassumption
  ihave Hx := (pointsTo_share (PosShare.mem_left_op_right (xq (wL L)))).2 $$ [Hxl Hxr]; · isplitl [Hxl] <;> iassumption
  isplitr; · iexact Hmw
  isplitl [H5]; · iexact H5
  isplitl [Hx]; · iexact Hx
  isplitl [H6]; · iexists _; iexact H6
  isplitl [H7]; · iexists _; iexact H7
  isplitl [H8]
  · iexists _
    isplitr
    rotate_left
    · iexact H8
    · ipureintro
      intro y hy
      exact RowPieces.two
        (rowPieces (F := F) (r := ⟨2 * k.val + 1, hk⟩) hacc' (k0_off28_eq k) (k0_off29_eq k) (k0_off30_eq k) (k0_off31_eq k) (k0_off32_eq k)
          (k0_off33_eq k) (k0_off34_eq k) (k0_off35_eq k) (k0_off28_inb k) (k0_off29_inb k) (k0_off30_inb k) (k0_off31_inb k) (k0_off32_inb k)
          (k0_off33_inb k) (k0_off34_inb k) (k0_off35_inb k))
        (rowPieces (F := F) (r := ⟨2 * k.val, by omega⟩) hacc (k0_off12_eq k) (k0_off13_eq k) (k0_off14_eq k) (k0_off15_eq k) (k0_off16_eq k)
          (k0_off17_eq k) (k0_off18_eq k) (k0_off19_eq k) (k0_off12_inb k) (k0_off13_inb k) (k0_off14_inb k) (k0_off15_inb k) (k0_off16_inb k)
          (k0_off17_inb k) (k0_off18_inb k) (k0_off19_inb k))
        rV.view f8 h8 y (by omega)
  isplitl [Hs9]; · iexact Hs9
  isplitl [Hs10]; · iexact Hs10
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

end Cert.Proof.Pool

end
-- ==== Proof.Tile.lean ====
/-
  A tile's whole task, at a symbolic (core, subcore) pair: its rows of tokens fetched, the sixteen trips, its rows of the
  pooled array written out. And the obligation the launch asks of every tile.
-/
module

public import proofs.«01_k».proof.Proof.Trip

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- Every token names a row of the table. -/
def PreOK (m : (ℓ : Loc nD τ sig) → Buf (Elt F) ℓ) : Prop := ∀ d (j : S1024x50.Idx), (m (iLoc d) j : BitVec 32).toNat < 100000

variable (m : (ℓ : Loc nD τ sig) → Buf (Elt F) ℓ) (d : Dev nD) (L : grid0.Coords)

/-- The tokens the tile fetches. -/
def tileIds : S32x50.Idx → BitVec 32 := (iRowK L).view.read (Elt F) (m (iLoc d))

theorem tileIds_apply (y : S32x50.Idx) : tileIds m d L y = m (iLoc d) ((irowK L).emb y) := by
  show (iRowK L).view.read (Elt F) (m (iLoc d)) y = _
  exact (View.read_apply _ _).trans (cast_eq _ _)

/-- The tile's block of the pooled array is the pooled array at the tile's rows. -/
theorem tilePooled_eq (x : S100000x128.Idx → F .f32) (y : S32x128.Idx) :
    tilePooled (tileIds m d L) x y = pooled (m (iLoc d)) x ((orowK L).emb y) := by
  show poolRow x (fun j => tileIds m d L (ix2 (y 0) (Fin.ofNat 50 j))) (y 1).val
    = poolRow x (fun j => m (iLoc d) (ix2 ((orowK L).emb y 0) (Fin.ofNat 50 j))) ((orowK L).emb y 1).val
  have h0 : (y 0).val < 32 := (y 0).isLt
  congr 1
  · funext j
    rw [tileIds_apply]
    congr 1; funext a
    match a with
    | 0 =>
      refine Fin.ext ?_
      show (k0_off1 L 0) + 1 * (y 0).val = (k0_off36 L 0) + 1 * (y 0).val
      rw [k0_off1_eq, k0_off36_eq]
    | 1 =>
      refine Fin.ext ?_
      show (k0_off1 L 1) + 1 * (Fin.ofNat 50 j).val = (Fin.ofNat 50 j).val
      rw [k0_off1_eq]
      show 0 + 1 * _ = _
      omega
  · show (y 1).val = (k0_off36 L 1) + 1 * (y 1).val
    rw [k0_off36_eq]
    show _ = 0 + 1 * (y 1).val
    omega

abbrev iRowPts (w : Fin 32) : sProp 𝕄 := iLoc d ↦[iRowSet w]{fullShare} m (iLoc d)
abbrev xShPts (w : Fin 32) : sProp 𝕄 := xLoc d ↦{xq w} m (xLoc d)
abbrev oRowPts (w : Fin 32) (f : Buf (Elt F) (oLoc d)) : sProp 𝕄 := oLoc d ↦[oRowSet w]{fullShare} f
/-- The pooled array of a device. -/
abbrev pooledAt : Buf (Elt F) (oLoc d) := pooled (F := F) (m (iLoc d)) (m (xLoc d))

/-- The tile's rows of the pooled array, once its block is written out. -/
theorem written_rows (fr : S32x128.Idx → F .f32)
    (hfr : ∀ y : S32x128.Idx, (y 0).val < 2 * 16 → rV.view.read (Elt F) fr y = tilePooled (F := F) (tileIds m d L) (m (xLoc d)) y) :
    (oLoc d ↦[oRowSet (wL L)]{fullShare} (oRowK L).view.writes (Elt F) (m (oLoc d)) [⟨Rect.whole S32x128, rV.view.read (Elt F) fr⟩] : sProp 𝕄)
      = oRowPts d (wL L) (pooledAt m d) := by
  refine pointsTo_congr (fun i hi => ?_)
  rw [← set_oRowK] at hi
  obtain ⟨y, -, rfl⟩ := Finset.mem_map.mp hi
  have h := View.read_writes_cons_hit (Val := Elt F) (oRowK L).view (m (oLoc d)) (Rect.whole S32x128) (rV.view.read (Elt F) fr) [] y y
    (Rect.emb_whole_apply S32x128 y)
  refine Eq.trans ?_ (h.trans ((hfr y (y 0).isLt).trans (tilePooled_eq (F := F) m d L (m (xLoc d)) y)))
  exact ((View.read_apply _ _).trans (cast_eq _ _)).symm

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (wL L) ∗ xShPts m d (wL L) ∗ oRowPts d (wL L) (m (oLoc d)))
        ∗ scopedBufs (tV d L) ∗ scopedSems0 (tV d L) ∗ owes (tV d L) O W)
      ⊢ wp frame (wpE (defs₀ (F := F)) 𝒱₀ (tV d L) none) Set.univ
          (cc0__sc_pool_body L iV (Memref.isWhole_whole _) xV (Memref.isWhole_whole _) oV (Memref.isWhole_whole _)
            sV (Memref.isWhole_whole _) aV (Memref.isWhole_whole _) bV (Memref.isWhole_whole _) rV (Memref.isWhole_whole _)
            cc0_scratch4 cc0_scratch5 cc0_scoped0 cc0_scoped1)
          fun _ => iprop((iRowPts m d (wL L) ∗ xShPts m d (wL L) ∗ oRowPts d (wL L) (pooledAt m d))
            ∗ scopedBufs (tV d L) ∗ scopedSems0 (tV d L)
            ∗ ∃ W', ⌜∀ p ∈ W', p ∈ W ∨ p.2 = none⌝ ∗ owes (tV d L) O W') := by
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨⟨%fs, Hs⟩, ⟨%fa, Ha⟩, ⟨%fb, Hb⟩, ⟨%fr, Hr⟩⟩, Hbufs⟩, ⟨⟨Hs9, Hs10, HsA, HsB⟩, Hsems⟩, HO⟩
  ihave #Hmw := (show levAts (K (F := F)).L (K (F := F)).lev ⊢ Transfers.MayWaits (tV d L) (default : HIx 1) O from
    (K (F := F)).mayWaits_none (thr := tV d L) hO) $$ Hlv
  ihave Hi := (Entails.of_eq (pts_iRowK (F := F) d L _).symm) $$ Hi
  ihave Ho := (Entails.of_eq (pts_oRowK (F := F) d L _).symm) $$ Ho
  ihave Hx := (Entails.of_eq (show (xLoc d ↦{xq (wL L)} m (xLoc d) : sProp 𝕄) = xV.view.loc (tV d L) ↦{xq (wL L)} m (xLoc d) from rfl)) $$ Hx
  ihave Hs := (Entails.of_eq (show ((tV d L).loc cc0_scratch0 ↦{fullShare} fs : sProp 𝕄) = sV.view.loc (tV d L) ↦{fullShare} fs from rfl)) $$ Hs
  ihave Ha := (Entails.of_eq (show ((tV d L).loc cc0_scratch1 ↦{fullShare} fa : sProp 𝕄) = aV.view.loc (tV d L) ↦{fullShare} fa from rfl)) $$ Ha
  ihave Hb := (Entails.of_eq (show ((tV d L).loc cc0_scratch2 ↦{fullShare} fb : sProp 𝕄) = bV.view.loc (tV d L) ↦{fullShare} fb from rfl)) $$ Hb
  ihave Hr := (Entails.of_eq (show ((tV d L).loc cc0_scratch3 ↦{fullShare} fr : sProp 𝕄) = rV.view.loc (tV d L) ↦{fullShare} fr from rfl)) $$ Hr
  sl_exec
  have hids : ∀ y : S32x50.Idx, (tileIds m d L y : BitVec 32).toNat < 100000 := fun y => by rw [tileIds_apply]; exact hpre d _
  ihave Hs := (Entails.of_eq (show (sV.view.loc (tV d L) ↦{fullShare} View.write (Elt F) sV.view fs (tile_body.sl.dma0 m d L) Finset.univ : sProp 𝕄)
      = sV.view.loc (tV d L) ↦{fullShare} (tileIds m d L) from
    congrArg (fun g => (sV.view.loc (tV d L) ↦{fullShare} g : sProp 𝕄)) (View.write_whole_univ (Val := Elt F) cc0_scratch0 fs _))) $$ Hs
  sl_for (tripInv (F := F) d L m (tileIds m d L) O (insert (SemLoc.dma cc0_scoped0.sem, (default : HIx 1)) W)) $$ [Hx Hs Ha Hb Hr Hs9 Hs10 HO]
  case region =>
    intro k u
    exact trip (F := F) d L m (tileIds m d L) hids O _ k u
  · unfold tripInv
    isplitr; · iexact Hmw
    isplitl [Hs]; · iexact Hs
    isplitl [Hx]; · iexact Hx
    isplitl [Ha]; · iexists _; iexact Ha
    isplitl [Hb]; · iexists _; iexact Hb
    isplitl [Hr]
    · iexists _; isplitr
      rotate_left
      · iexact Hr
      · ipureintro; intro y hy; omega
    isplitl [Hs9]; · iexact Hs9
    isplitl [Hs10]; · iexact Hs10
    iexists _; isplitr
    rotate_left
    · iexact HO
    · ipureintro; exact fun p hp => .inl hp
  iintro %_ HI
  unfold tripInv
  icases HI with ⟨-, Hs, Hx, ⟨%fa', Ha⟩, ⟨%fb', Hb⟩, ⟨%fr', %hfr, Hr⟩, Hs9, Hs10, %W', %hW', HO⟩
  sl_exec
  sl_step
  isplitl [Hi Hx Ho]
  · isplitl [Hi]; · iapply (Entails.of_eq (pts_iRowK (F := F) d L _)); iexact Hi
    isplitl [Hx]; · iexact Hx
    ihave Ho := (Entails.of_eq (pts_oRowK (F := F) d L _)) $$ Ho
    iapply (Entails.of_eq (written_rows (F := F) m d L fr' hfr))
    iexact Ho
  isplitl [Hs Ha Hb Hr Hbufs]
  · isplitl [Hs Ha Hb Hr]
    · isplitl [Hs]; · iexists _; iexact Hs
      isplitl [Ha]; · iexists _; iexact Ha
      isplitl [Hb]; · iexists _; iexact Hb
      iexists _; iexact Hr
    · iexact Hbufs
  isplitl [Hs9 Hs10 HsA HsB Hsems]
  · isplitl [Hs9 Hs10 HsA HsB]
    · isplitl [Hs9]; · iexact Hs9
      isplitl [Hs10]; · iexact Hs10
      isplitl [HsA]; · iexact HsA
      iexact HsB
    · iexact Hsems
  iexists _; isplitr
  rotate_left
  · iexact HO
  ipureintro; intro p hp
  rcases Finset.mem_insert.mp hp with hp | hp; · exact .inr (hp ▸ rfl)
  rcases hW' p hp with hp | hp
  · rcases Finset.mem_insert.mp hp with hp | hp; · exact .inr (hp ▸ rfl)
    exact .inl hp
  · exact .inr hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool_body (coordsV c s)
          iV (Memref.isWhole_whole _) xV (Memref.isWhole_whole _) oV (Memref.isWhole_whole _)
          sV (Memref.isWhole_whole _) aV (Memref.isWhole_whole _) bV (Memref.isWhole_whole _) rV (Memref.isWhole_whole _)
          cc0_scratch4 cc0_scratch5 cc0_scoped0 cc0_scoped1) ⟨⟩ c s := rfl

/-- The waits a tile has recorded, told to the launch. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The number of the tile that runs task `i` of core `c`. -/
def tileNo (c : Fin ((K (F := F)).nCore 0)) (i : Fin ((K (F := F)).nSub 0)) : Fin 32 :=
  ⟨2 * i.val + c.val, by
    have h0 : c.val < 2 := nCore_zero (F := F) ▸ c.isLt
    have h1 : i.val < 16 := nSub_zero (F := F) ▸ i.isLt
    omega⟩

/-- What the launch hands a tile; -/
abbrev goRes (c : Fin ((K (F := F)).nCore 0)) (i : Fin ((K (F := F)).nSub 0)) : sProp 𝕄 :=
  iprop(iRowPts m d (tileNo (F := F) c i) ∗ xShPts m d (tileNo (F := F) c i) ∗ oRowPts d (tileNo (F := F) c i) (m (oLoc d)))
/-- and what it hands back. -/
abbrev tdRes (c : Fin ((K (F := F)).nCore 0)) (i : Fin ((K (F := F)).nSub 0)) : sProp 𝕄 :=
  iprop(iRowPts m d (tileNo (F := F) c i) ∗ xShPts m d (tileNo (F := F) c i) ∗ oRowPts d (tileNo (F := F) c i) (pooledAt m d))

/-- What the call's signals carry: a core's tiles' parts, each tile's part. -/
def P : (K (F := F)).Pay (nD := nD) (Val := Elt F) (Name := ℕ) (U := UU) where
  st := fun q d c => match q with | 0 => bigSep Finset.univ fun i => goRes (F := F) m d c i
  dn := fun q d c => match q with | 0 => bigSep Finset.univ fun i => tdRes (F := F) m d c i
  go := fun q d c i => match q with | 0 => goRes (F := F) m d c i
  td := fun q d c i => match q with | 0 => tdRes (F := F) m d c i
  x := fun _ _ => iprop(emp)

instance P_storable : (P (F := F) m).IsStorable where
  st q d c := match q with
    | 0 => (inferInstance : BI.Storable (upEmb : UEmb _ 𝕄) (bigSep Finset.univ fun i => goRes (F := F) m d c i))
  dn q d c := match q with
    | 0 => (inferInstance : BI.Storable (upEmb : UEmb _ 𝕄) (bigSep Finset.univ fun i => tdRes (F := F) m d c i))
  go q d c i := match q with
    | 0 => (inferInstance : BI.Storable (upEmb : UEmb _ 𝕄) (goRes (F := F) m d c i))
  td q d c i := match q with
    | 0 => (inferInstance : BI.Storable (upEmb : UEmb _ 𝕄) (tdRes (F := F) m d c i))

set_option maxRecDepth 16384 in
theorem tileObl (hF : (K (F := F)).Facts) (hpre : PreOK m) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) m d (coordsV ⟨_, hci.1⟩ ⟨_, hci.2⟩) hF hpre O W hO).trans (wp_mono frame _ _ fun _ => obl_post)

theorem vecSplit : (K (F := F)).VecSplit' (P m) 0 := by
  intro d c
  show (bigSep Finset.univ fun i => goRes (F := F) m d c i) ⊢ |={Set.univ}=> iprop(
      (bigSep Finset.univ fun i => goRes (F := F) m d c i)
      ∗ ((bigSep Finset.univ fun i => tdRes (F := F) m d c i) -∗ (bigSep Finset.univ fun i => tdRes (F := F) m d c i)))
  iintro H
  imodintro
  isplitl [H]; · iexact H
  iintro H; iexact H

end Cert.Proof.Pool

end
-- ==== Proof.Deal.lean ====
/-
  The launch's operands dealt to the thirty-two tiles and joined again: the token rows and the pooled rows by blocks of
  thirty-two rows, the embedding table by shares; and the core's buffers as one valuation.
-/
module

public import proofs.«01_k».proof.Proof.Tile
public import Idealize.ShloMosaic.Lib.Pipeline.RegionsLoop

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## Rows and shares, all of them -/

omit [FloatOps F] [Named F] in
theorem iRowSet_eq (w : Fin 32) : iRowSet w = (Rect.part (s := S1024x50) (a₀ := 0) idiv w).set := by
  show ((iV.view.slice (irow w)).set) = _
  rw [View.set_slice]; exact Finset.map_refl
omit [FloatOps F] [Named F] in
theorem oRowSet_eq (w : Fin 32) : oRowSet w = (Rect.part (s := S1024x128) (a₀ := 0) odiv w).set := by
  show ((oV.view.slice (orow w)).set) = _
  rw [View.set_slice]; exact Finset.map_refl

omit [FloatOps F] [Named F] in
theorem iRows_eq (d : Dev nD) (f : Buf (Elt F) (iLoc d)) :
    (bigSep Finset.univ fun w : Fin 32 => (iLoc d ↦[iRowSet w]{fullShare} f : sProp 𝕄)) = (iLoc d ↦{fullShare} f) := by
  rw [← pointsTo_biUnion Finset.univ (ℓ := iLoc d) iRowSet
      (fun i _ j _ h => by rw [iRowSet_eq, iRowSet_eq]; exact Rect.part_disjoint idiv h),
    show (Finset.univ : Finset (Fin 32)).biUnion iRowSet = Finset.univ from
      (Finset.biUnion_congr rfl fun i _ => iRowSet_eq i).trans (Rect.biUnion_part idiv)]
  try rfl
omit [FloatOps F] [Named F] in
theorem oRows_eq (d : Dev nD) (f : Buf (Elt F) (oLoc d)) :
    (bigSep Finset.univ fun w : Fin 32 => (oLoc d ↦[oRowSet w]{fullShare} f : sProp 𝕄)) = (oLoc d ↦{fullShare} f) := by
  rw [← pointsTo_biUnion Finset.univ (ℓ := oLoc d) oRowSet
      (fun i _ j _ h => by rw [oRowSet_eq, oRowSet_eq]; exact Rect.part_disjoint odiv h),
    show (Finset.univ : Finset (Fin 32)).biUnion oRowSet = Finset.univ from
      (Finset.biUnion_congr rfl fun i _ => oRowSet_eq i).trans (Rect.biUnion_part odiv)]
  try rfl
omit [FloatOps F] [Named F] in
theorem xShares_eq (d : Dev nD) (f : Buf (Elt F) (xLoc d)) :
    (bigSep Finset.univ fun w : Fin 32 => (xLoc d ↦{xq w} f : sProp 𝕄)) = (xLoc d ↦{fullShare} f) :=
  (pointsTo_leaves Finset.univ f fullShare 5).symm

/-- A core and a task name a tile, each tile once. -/
def tileEquiv : Fin ((K (F := F)).nCore 0) × Fin ((K (F := F)).nSub 0) ≃ Fin 32 where
  toFun p := tileNo (F := F) p.1 p.2
  invFun w := (⟨w.val % 2, Nat.mod_lt _ (by decide)⟩, ⟨w.val / 2, show w.val / 2 < 16 by omega⟩)
  left_inv := by
    rintro ⟨c, i⟩
    have h0 : c.val < 2 := c.isLt
    refine Prod.ext (Fin.ext ?_) (Fin.ext ?_)
    · show (2 * i.val + c.val) % 2 = c.val; omega
    · show (2 * i.val + c.val) / 2 = i.val; omega
  right_inv w := Fin.ext (show 2 * (w.val / 2) + w.val % 2 = w.val by omega)

omit [FloatOps F] [Named F] in
theorem bigSep_tiles (Φ : Fin 32 → sProp 𝕄) :
    (bigSep Finset.univ fun c : Fin ((K (F := F)).nCore 0) => bigSep Finset.univ fun i : Fin ((K (F := F)).nSub 0) => Φ (tileNo (F := F) c i))
      = bigSep Finset.univ Φ := by
  rw [← bigSep_univ_prod (fun p : Fin ((K (F := F)).nCore 0) × Fin ((K (F := F)).nSub 0) => Φ (tileNo (F := F) p.1 p.2)),
    bigSep_univ_equiv (tileEquiv (F := F)) Φ]
  rfl

/-- What the call takes is the three arrays whole, -/
theorem st0_eq (d : Dev nD) : (bigSep Finset.univ fun c : Fin ((K (F := F)).nCore 0) => (P m).st 0 d c)
    = iprop((iLoc d ↦{fullShare} m (iLoc d)) ∗ (xLoc d ↦{fullShare} m (xLoc d)) ∗ (oLoc d ↦{fullShare} m (oLoc d))) := by
  refine (bigSep_tiles (F := F) (fun w => iprop(iRowPts m d w ∗ xShPts m d w ∗ oRowPts d w (m (oLoc d))))).trans ?_
  rw [bigSep_sep', bigSep_sep']
  unfold iRowPts xShPts oRowPts
  rw [iRows_eq, xShares_eq, oRows_eq]
/-- and what it gives back is them, the pooled array computed. -/
theorem dn0_eq (d : Dev nD) : (bigSep Finset.univ fun c : Fin ((K (F := F)).nCore 0) => (P m).dn 0 d c)
    = iprop((iLoc d ↦{fullShare} m (iLoc d)) ∗ (xLoc d ↦{fullShare} m (xLoc d)) ∗ (oLoc d ↦{fullShare} pooledAt m d)) := by
  refine (bigSep_tiles (F := F) (fun w => iprop(iRowPts m d w ∗ xShPts m d w ∗ oRowPts d w (pooledAt m d)))).trans ?_
  rw [bigSep_sep', bigSep_sep']
  unfold iRowPts xShPts oRowPts
  rw [iRows_eq, xShares_eq, oRows_eq]

/-! ## The core's buffers at a valuation -/

/-- The buffers the core holds all along. -/
def ucRefs : Finset (DevRef τ sig) := (StableHlo.tcRefs τ sig).filter fun b => ¬ b.isScoped

omit [FloatOps F] [Named F] in
theorem unscopedBufs_held (c : Dev nD) (W : Valuation τ sig (Elt F)) :
    (unscopedBufs c (fun b => W (Proc.devRef .tc b)) : sProp 𝕄) = StableHlo.held (c.tc : Thread nD τ) ucRefs W := by
  unfold unscopedBufs StableHlo.held ucRefs StableHlo.tcRefs
  rw [Finset.filter_map, bigSep_map]
  rfl

abbrev v0Ref : DevRef τ sig := Proc.devRef .tc main_v0

/-- The launch memory of device `d`. -/
abbrev V₀ (d : Dev nD) : Valuation τ sig (Elt F) := fun b => m (d, b)
/-- The memory after the first kernel: the pooled array computed. -/
def V₁ (d : Dev nD) : Valuation τ sig (Elt F) := Function.update (V₀ m d) v0Ref (pooledAt m d)

/-- The core's buffers but the first kernel's three. -/
def restRefs : Finset (DevRef τ sig) := ucRefs \ {Proc.devRef .tc main_arg0, Proc.devRef .tc main_arg1, v0Ref}

theorem ucRefs_eq : ucRefs = insert (Proc.devRef .tc main_arg0) (insert (Proc.devRef .tc main_arg1) (insert v0Ref restRefs)) := by decide
omit [FloatOps F] [Named F] in
theorem held_three (d : Dev nD) (W : Valuation τ sig (Elt F)) :
    (StableHlo.held (d.tc : Thread nD τ) ucRefs W : sProp 𝕄)
      = iprop((iLoc d ↦{fullShare} W (Proc.devRef .tc main_arg0)) ∗ (xLoc d ↦{fullShare} W (Proc.devRef .tc main_arg1))
          ∗ (oLoc d ↦{fullShare} W v0Ref) ∗ StableHlo.held (d.tc : Thread nD τ) restRefs W) := by
  unfold StableHlo.held
  rw [ucRefs_eq, SparseCore.bigSep_insert' (by decide), SparseCore.bigSep_insert' (by decide), SparseCore.bigSep_insert' (by decide)]

theorem V₁_ne (d : Dev nD) {b : DevRef τ sig} (h : b ≠ v0Ref) : V₁ m d b = m (d, b) := Function.update_of_ne h _ _
theorem V₁_v0 (d : Dev nD) : V₁ m d v0Ref = pooledAt m d := Function.update_self _ _ _

end Cert.Proof.Pool

end
-- ==== Proof.Head.lean ====
/-
  The second kernel's body at one step of its grid: what it leaves in every staging buffer and in its three scratch
  buffers, as a function of what they held.
-/
module

public import proofs.«01_k».proof.Proof.Rows

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A load of the whole of a memref continues at what it holds. -/
theorem load_owns {s : Shape} {e : EltTy} {α : Type} (c : Dev nD) (M : Memref sig .tc .vmem s e) (E : Set ℕ)
    {off : Fin s.rank → ℕ} (ho : off = fun _ => 0) {inb : ∀ a, off a + s.size a ≤ s.size a}
    {hl : M.view.LoadsAt (Rect.unit (s := s) off s.size inb).toLoadRect}
    {k : (s.Idx → Elt F e) → Prog (TpuEff nD τ sig (Elt F) Λ₀ .tc) α} {q : PosShare TreeShare} {X : s.Idx → Elt F e}
    {Q : α → sProp 𝕄} :
    (owns (c.tc : Thread nD τ) M q X : sProp 𝕄)
      ⊢ iprop((owns (c.tc : Thread nD τ) M q X -∗ wp frame (wpE (defs₀ (F := F)) 𝒱₀ (c.tc : Thread nD τ) none) E (k X) Q)
        -∗ wp frame (wpE (defs₀ (F := F)) 𝒱₀ (c.tc : Thread nD τ) none) E (.op (.load M (Rect.unit (s := s) off s.size inb).toLoadRect hl) k) Q) := by
  subst ho
  have hr : ∀ f, M.view.readAt (Elt F) (Rect.unit (s := s) (fun _ => 0) s.size inb).toLoadRect f = M.view.read (Elt F) f := fun f => by
    funext x
    show M.view.read (Elt F) f ((Rect.whole s).emb x) = _
    rw [Rect.emb_whole_apply]
  unfold owns
  iintro ⟨%f, %hf, H⟩ Hk
  subst hf
  have h := wp_load (defs := defs₀ (F := F)) 𝒱₀ (c.tc : Thread nD τ) none (Γ := ∅) E (Q := Q) (m := M)
    (r := (Rect.unit (s := s) (fun _ => 0) s.size inb).toLoadRect) (hl := hl) (k := k) (q := q) (f := f) (S := M.view.set)
    (View.setOn_subset_set _ _)
  rw [hr f] at h
  iapply h $$ H
  iintro H
  iapply Hk
  iexists f
  isplitr; · ipureintro; rfl
  iexact H

/-- A store over the whole of a memref leaves what is stored. -/
theorem store_owns {s : Shape} {e : EltTy} {α : Type} (c : Dev nD) (M : Memref sig .tc .vmem s e) (E : Set ℕ)
    {off : Fin s.rank → ℕ} (ho : off = fun _ => 0) {inb : ∀ a, off a + s.size a ≤ s.size a} {w : s.Idx → Elt F e}
    {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} {X : s.Idx → Elt F e} {Q : α → sProp 𝕄} :
    (owns (c.tc : Thread nD τ) M fullShare X : sProp 𝕄)
      ⊢ iprop((owns (c.tc : Thread nD τ) M fullShare w -∗ wp frame (wpE (defs₀ (F := F)) 𝒱₀ (c.tc : Thread nD τ) none) E (k ⟨⟩) Q)
        -∗ wp frame (wpE (defs₀ (F := F)) 𝒱₀ (c.tc : Thread nD τ) none) E
          (.op (.store M (Rect.unit (s := s) off s.size inb) w Finset.univ hx hm) k) Q) := by
  subst ho
  have hr : ∀ f, M.view.read (Elt F) ((M.access (Rect.unit (s := s) (fun _ => 0) s.size inb)).write (Elt F) f w Finset.univ) = w := fun f => by
    funext x
    have h := congrFun (View.read_write_univ (Val := Elt F) (v := M.access (Rect.unit (s := s) (fun _ => 0) s.size inb)) f w) x
    refine Eq.trans ?_ h
    show M.view.read (Elt F) _ x = M.view.read (Elt F) _ ((Rect.whole s).emb x)
    rw [Rect.emb_whole_apply]
  unfold owns
  iintro ⟨%f, -, H⟩ Hk
  have h := wp_store (defs := defs₀ (F := F)) 𝒱₀ (c.tc : Thread nD τ) none (Γ := ∅) E (Q := Q) (m := M)
    (r := Rect.unit (s := s) (fun _ => 0) s.size inb) (w := w) (Mk := Finset.univ) (hx := hx) (hm := hm) (k := k) (f := f) (S := M.view.set)
    (View.set_slice_subset _ _)
  iapply h $$ H
  iintro H
  iapply Hk
  iexists _
  isplitr; swap
  · iexact H
  ipureintro; exact hr f

/-- The first step is the one at coordinate zero, -/
theorem cond1_iff (n : Fin 49) :
    Iff ((Scalar.cmpi .ne (Scalar.extui (Scalar.cmpi .eq (BitVec.ofNat 32 n.val) 0#32) : BitVec 32) 0#32 : BitVec 1) = 1#1) (n.val = 0) := by
  revert n; decide

/-- and the last the one at coordinate forty-eight. -/
theorem cond2_iff (i : grid1.Coords) : Iff (k1_cond2 i = 1#1) ((i 0).val = 48) := by
  have h : ∀ n : Fin 49, Iff ((Scalar.cmpi .ne (Scalar.extui (Scalar.cmpi .eq (BitVec.ofNat 32 n.val) 48#32) : BitVec 32) 0#32 : BitVec 1) = 1#1) (n.val = 48) := by
    decide
  exact h (i 0)

theorem zeros2 : (![0, 0] : Fin 2 → ℕ) = fun _ => 0 := by
  funext a; fin_cases a <;> rfl

/-! ### One step -/

section Step

variable (i : grid1.Coords) (X0 : S1024x128.Idx → Elt F .f32) (X1 : S128x128.Idx → Elt F .f32) (X2 : S1x128.Idx → Elt F .f32)
  (X3 : S2048x128.Idx → Elt F .f32) (X4 : S1x2048.Idx → Elt F .f32)
  (h : S1024x128.Idx → Elt F .bf16) (mx sm : S1024x1.Idx → Elt F .f32)

/-- What the step starts from: the first step sets the three scratch buffers, the others find them. -/
def h₁ : S1024x128.Idx → Elt F .bf16 := if (i 0).val = 0 then k1_pay5 X0 X1 X2 else h
def mx₁ : S1024x1.Idx → Elt F .f32 := if (i 0).val = 0 then k1_pay6 else mx
def sm₁ : S1024x1.Idx → Elt F .f32 := if (i 0).val = 0 then k1_pay7 else sm

/-- What the step leaves in the running maximum and the running sum. -/
def mx₂ : S1024x1.Idx → Elt F .f32 := k1_pay2 (k1_pay9 i X3 h X4 mx)
def sm₂ : S1024x1.Idx → Elt F .f32 := k1_pay1 (k1_pay10 i X3 h X4 mx sm mx)

variable (c : Dev nD) (E : Set ℕ)
  (a1 : Memref sig .tc .vmem S1024x128 .f32) (g1 : a1.IsWhole) (a2 : Memref sig .tc .vmem S128x128 .f32) (g2 : a2.IsWhole)
  (a3 : Memref sig .tc .vmem S1x128 .f32) (g3 : a3.IsWhole) (a4 : Memref sig .tc .vmem S2048x128 .f32) (g4 : a4.IsWhole)
  (a5 : Memref sig .tc .vmem S1x2048 .f32) (g5 : a5.IsWhole) (a6 : Memref sig .tc .vmem S1024x2048 .bf16) (g6 : a6.IsWhole)
  (a7 : Memref sig .tc .vmem S1024x1 .f32) (g7 : a7.IsWhole) (a8 : Memref sig .tc .vmem S1024x128 .bf16) (g8 : a8.IsWhole)
  (a9 : Memref sig .tc .vmem S1024x1 .f32) (g9 : a9.IsWhole) (a10 : Memref sig .tc .vmem S1024x1 .f32) (g10 : a10.IsWhole)
  (X5 : S1024x2048.Idx → Elt F .bf16) (X6 : S1024x1.Idx → Elt F .f32)

/-- The three operands of the first step's setting, held. -/
def ops3 : sProp 𝕄 :=
  iprop(owns (c.tc : Thread nD τ) a1 fullShare X0 ∗ owns (c.tc : Thread nD τ) a2 fullShare X1 ∗ owns (c.tc : Thread nD τ) a3 fullShare X2)

/-- The three scratch buffers, held. -/
def scr3 (h : S1024x128.Idx → Elt F .bf16) (mx sm : S1024x1.Idx → Elt F .f32) : sProp 𝕄 :=
  iprop(owns (c.tc : Thread nD τ) a8 fullShare h ∗ owns (c.tc : Thread nD τ) a9 fullShare mx ∗ owns (c.tc : Thread nD τ) a10 fullShare sm)

/-- The first part: the scratch buffers set at the first step, then everything loaded. -/
theorem part1_run {β : Type} (k : (Σ' (_ : BitVec 32) (_ : FVec F S1024x2048 .f32) (_ : FVec F S1024x1 .f32), FVec F S1024x1 .f32) → Prog (TpuEff nD τ sig (Elt F) Λ₀ .tc) β)
    (Q : β → sProp 𝕄) :
    iprop(ops3 X0 X1 X2 c a1 a2 a3 ∗ owns (c.tc : Thread nD τ) a4 fullShare X3 ∗ owns (c.tc : Thread nD τ) a5 fullShare X4 ∗ scr3 c a8 a9 a10 h mx sm
      ∗ ((ops3 X0 X1 X2 c a1 a2 a3 ∗ owns (c.tc : Thread nD τ) a4 fullShare X3 ∗ owns (c.tc : Thread nD τ) a5 fullShare X4
          ∗ scr3 c a8 a9 a10 (h₁ i X0 X1 X2 h) (mx₁ i mx) (sm₁ i sm))
        -∗ wp frame (wpE (defs₀ (F := F)) 𝒱₀ (c.tc : Thread nD τ) none) E
            (k ⟨BitVec.ofNat 32 (i 0).val, k1_pay8 i X3 (h₁ i X0 X1 X2 h) X4, k1_pay9 i X3 (h₁ i X0 X1 X2 h) X4 (mx₁ i mx),
              k1_pay10 i X3 (h₁ i X0 X1 X2 h) X4 (mx₁ i mx) (sm₁ i sm) (mx₁ i mx)⟩) Q))
      ⊢ wp frame (wpE (defs₀ (F := F)) 𝒱₀ (c.tc : Thread nD τ) none) E
          (k1_part1 i a1 g1 a2 g2 a3 g3 a4 g4 a5 g5 a6 g6 a7 g7 a8 g8 a9 g9 a10 g10 >>= k) Q := by
  rw [k1_part1_eq_skeleton]; unfold k1_part1_skel ops3 scr3
  simp only [Prog.lift, Prog.bind_op, Prog.bind_ret, Prog.pure_eq_ret]
  iintro ⟨⟨H1, H2, H3⟩, H4, H5, ⟨H8, H9, H10⟩, Hk⟩
  by_cases hi : (i 0).val = 0
  · rw [dif_pos ((cond1_iff (i 0)).mpr hi)]
    simp only [h₁, mx₁, sm₁, if_pos hi, Prog.bind_op, Prog.bind_ret]
    iapply load_owns c a1 E zeros2 $$ H1; iintro H1
    iapply load_owns c a2 E zeros2 $$ H2; iintro H2
    iapply load_owns c a3 E zeros2 $$ H3; iintro H3
    iapply load_owns c a8 E zeros2 $$ H8; iintro H8
    iapply store_owns c a8 E zeros2 $$ H8; iintro H8
    iapply load_owns c a9 E zeros2 $$ H9; iintro H9
    iapply store_owns c a9 E zeros2 $$ H9; iintro H9
    iapply load_owns c a10 E zeros2 $$ H10; iintro H10
    iapply store_owns c a10 E zeros2 $$ H10; iintro H10
    iapply load_owns c a4 E zeros2 $$ H4; iintro H4
    iapply load_owns c a8 E zeros2 $$ H8; iintro H8
    iapply load_owns c a5 E zeros2 $$ H5; iintro H5
    iapply load_owns c a9 E zeros2 $$ H9; iintro H9
    iapply load_owns c a10 E zeros2 $$ H10; iintro H10
    iapply load_owns c a9 E zeros2 $$ H9; iintro H9
    iapply Hk
    iframe
  · rw [dif_neg (fun h' => hi ((cond1_iff (i 0)).mp h'))]
    simp only [h₁, mx₁, sm₁, if_neg hi, Prog.bind_op, Prog.bind_ret]
    iapply load_owns c a4 E zeros2 $$ H4; iintro H4
    iapply load_owns c a8 E zeros2 $$ H8; iintro H8
    iapply load_owns c a5 E zeros2 $$ H5; iintro H5
    iapply load_owns c a9 E zeros2 $$ H9; iintro H9
    iapply load_owns c a10 E zeros2 $$ H10; iintro H10
    iapply load_owns c a9 E zeros2 $$ H9; iintro H9
    iapply Hk
    iframe

/-- What the step leaves in the second result's buffer: the last step alone writes it. -/
def lse₁ (m' s' : S1024x1.Idx → Elt F .f32) : S1024x1.Idx → Elt F .f32 := if (i 0).val = 48 then k1_pay4 m' s' else X6

/-- The whole step. -/
theorem body_run (Q : PUnit → sProp 𝕄) :
    iprop(ops3 X0 X1 X2 c a1 a2 a3 ∗ owns (c.tc : Thread nD τ) a4 fullShare X3 ∗ owns (c.tc : Thread nD τ) a5 fullShare X4
      ∗ owns (c.tc : Thread nD τ) a6 fullShare X5 ∗ owns (c.tc : Thread nD τ) a7 fullShare X6 ∗ scr3 c a8 a9 a10 h mx sm
      ∗ ((ops3 X0 X1 X2 c a1 a2 a3 ∗ owns (c.tc : Thread nD τ) a4 fullShare X3 ∗ owns (c.tc : Thread nD τ) a5 fullShare X4
          ∗ owns (c.tc : Thread nD τ) a6 fullShare (k1_pay3 (k1_pay8 i X3 (h₁ i X0 X1 X2 h) X4))
          ∗ owns (c.tc : Thread nD τ) a7 fullShare (lse₁ i X6 (mx₂ i X3 X4 (h₁ i X0 X1 X2 h) (mx₁ i mx)) (sm₂ i X3 X4 (h₁ i X0 X1 X2 h) (mx₁ i mx) (sm₁ i sm)))
          ∗ scr3 c a8 a9 a10 (h₁ i X0 X1 X2 h) (mx₂ i X3 X4 (h₁ i X0 X1 X2 h) (mx₁ i mx)) (sm₂ i X3 X4 (h₁ i X0 X1 X2 h) (mx₁ i mx) (sm₁ i sm)))
        -∗ Q ⟨⟩))
      ⊢ wp frame (wpE (defs₀ (F := F)) 𝒱₀ (c.tc : Thread nD τ) none) E
          (cc1__logits_body i a1 g1 a2 g2 a3 g3 a4 g4 a5 g5 a6 g6 a7 g7 a8 g8 a9 g9 a10 g10) Q := by
  rw [cc1__logits_body_eq_skeleton]; unfold cc1__logits_body_skel
  iintro ⟨H123, H4, H5, H6, H7, Hs, Hk⟩
  iapply part1_run i X0 X1 X2 X3 X4 h mx sm c E a1 g1 a2 g2 a3 g3 a4 g4 a5 g5 a6 g6 a7 g7 a8 g8 a9 g9 a10 g10
  iframe
  iintro ⟨H123, H4, H5, Hs⟩
  generalize h₁ i X0 X1 X2 h = h', mx₁ i mx = m', sm₁ i sm = s'
  unfold scr3
  simp only [Prog.lift, Prog.bind_op, Prog.bind_ret, Prog.pure_eq_ret]
  icases Hs with ⟨H8, H9, H10⟩
  iapply load_owns c a10 E zeros2 $$ H10; iintro H10
  iapply store_owns c a10 E zeros2 $$ H10; iintro H10
  iapply load_owns c a9 E zeros2 $$ H9; iintro H9
  iapply store_owns c a9 E zeros2 $$ H9; iintro H9
  iapply load_owns c a6 E zeros2 $$ H6; iintro H6
  iapply store_owns c a6 E zeros2 $$ H6; iintro H6
  by_cases hi : (i 0).val = 48
  · rw [dif_pos ((cond2_iff i).mpr hi)]
    simp only [lse₁, if_pos hi, Prog.bind_op, Prog.bind_ret]
    iapply load_owns c a9 E zeros2 $$ H9; iintro H9
    iapply load_owns c a10 E zeros2 $$ H10; iintro H10
    iapply load_owns c a7 E zeros2 $$ H7; iintro H7
    iapply store_owns c a7 E zeros2 $$ H7; iintro H7
    rw [wp_ret]
    imodintro
    iapply Hk
    unfold mx₂ sm₂
    iframe
  · rw [dif_neg (fun h' => hi ((cond2_iff i).mp h'))]
    simp only [lse₁, if_neg hi, Prog.bind_op, Prog.bind_ret]
    rw [wp_ret]
    imodintro
    iapply Hk
    unfold mx₂ sm₂
    iframe

end Step

end Cert.Proof.Pool

end
-- ==== Proof.Region.lean ====
/-
  The second kernel as a region of the program: forty-nine steps, each on the next block of the second weight matrix,
  a running maximum and a running sum kept in scratch. The proof data are relational: the last block overhangs the
  matrix, and what the step finds past its end is not stated.
-/
module

public import proofs.«01_k».proof.Proof.Head
public import proofs.«01_k».proof.Proof.Gen.KernelIdeal.Points
public import Idealize.ShloMosaic.Lib.Pipeline.ArrRel
public import Idealize.ShloMosaic.Lib.Pipeline.Frame

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (RDat Window)

/-! ## The relation the scratch buffers are in -/

/-- The contents of the TensorCore's buffers at the region's start. -/
abbrev Val0 (F : FTy → Type) : Type := (c : Dev nD) → (b : Ref sig .tc) → Buf (Elt F) ((c.tc : Thread nD τ).loc b)

variable (V : Val0 F) (c : Dev nD)

/-- The first step. -/
def t₀ : Fin grid1.N := ⟨0, by decide⟩

/-- A whole block: what a window's only fetch leaves in its staging buffer. -/
def B0 : S1024x128.Idx → Elt F .f32 :=
  win1_0.fill (grid1.coords t₀) (fun _ => Scalar.ofBits .f32 0#32) ((win1_0.blk t₀).view.read (Elt F) (V c main_v0))
def B1 : S128x128.Idx → Elt F .f32 :=
  win1_1.fill (grid1.coords t₀) (fun _ => Scalar.ofBits .f32 0#32) ((win1_1.blk t₀).view.read (Elt F) (V c main_arg2))
def B2 : S1x128.Idx → Elt F .f32 :=
  win1_2.fill (grid1.coords t₀) (fun _ => Scalar.ofBits .f32 0#32) ((win1_2.blk t₀).view.read (Elt F) (V c main_v1))

/-- What a step may find of the second weight matrix and of its bias: the block, anything past the end. -/
def W3 (t : Fin grid1.N) (X : S2048x128.Idx → Elt F .f32) : Prop :=
  ∃ d, X = win1_3.fill (grid1.coords t) d ((win1_3.blk t).view.read (Elt F) (V c main_arg4))
def W4 (t : Fin grid1.N) (X : S1x2048.Idx → Elt F .f32) : Prop :=
  ∃ d, X = win1_4.fill (grid1.coords t) d ((win1_4.blk t).view.read (Elt F) (V c main_v2))

/-- What the three scratch buffers may hold before step `t`. -/
inductive Reach : ℕ → (S1024x128.Idx → Elt F .bf16) → (S1024x1.Idx → Elt F .f32) → (S1024x1.Idx → Elt F .f32) → Prop
  | zero (h : S1024x128.Idx → Elt F .bf16) (mx sm : S1024x1.Idx → Elt F .f32) : Reach 0 h mx sm
  | succ (t : Fin grid1.N) {h : S1024x128.Idx → Elt F .bf16} {mx sm : S1024x1.Idx → Elt F .f32}
      {X3 : S2048x128.Idx → Elt F .f32} {X4 : S1x2048.Idx → Elt F .f32} (hr : Reach t.val h mx sm) (h3 : W3 V c t X3) (h4 : W4 V c t X4) :
      Reach (t.val + 1) (h₁ (grid1.coords t) (B0 V c) (B1 V c) (B2 V c) h)
        (mx₂ (grid1.coords t) X3 X4 (h₁ (grid1.coords t) (B0 V c) (B1 V c) (B2 V c) h) (mx₁ (grid1.coords t) mx))
        (sm₂ (grid1.coords t) X3 X4 (h₁ (grid1.coords t) (B0 V c) (B1 V c) (B2 V c) h) (mx₁ (grid1.coords t) mx) (sm₁ (grid1.coords t) sm))

/-- What step `t` may leave in the first result's buffer, -/
def Out5 (t : Fin grid1.N) (X : S1024x2048.Idx → Elt F .bf16) : Prop :=
  ∃ h mx sm X3 X4, Reach V c t.val h mx sm ∧ W3 V c t X3 ∧ W4 V c t X4
    ∧ X = k1_pay3 (k1_pay8 (grid1.coords t) X3 (h₁ (grid1.coords t) (B0 V c) (B1 V c) (B2 V c) h) X4)

/-- and in the second's, over what it found there. -/
def Out6 (t : Fin grid1.N) (Y X : S1024x1.Idx → Elt F .f32) : Prop :=
  ∃ h mx sm, Reach V c (t.val + 1) h mx sm ∧ X = lse₁ (grid1.coords t) Y mx sm

/-! ## The proof data -/

/-- The recorded waits' bound: the level the launch's first call leaves. -/
def recd (b : ℕ) : Set (SemLoc sig × HIx 1) := {p | (K (F := F)).lev ((c.tc : Thread nD τ), p.1) p.2 ≤ b}

/-- The three scratch buffers before step `n`. -/
def inv (n : ℕ) : sProp 𝕄 :=
  iprop(∃ h mx sm, ⌜Reach V c n h mx sm⌝
    ∗ scr3 c (Memref.whole cc1_scratch0) (Memref.whole cc1_scratch1) (Memref.whole cc1_scratch2) h mx sm)

/-- The region's proof data: every input block left as found, the results' blocks in the relations above. -/
def rdat (b : ℕ) : RDat τ (Elt F) (HIx 1) ℕ UU ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => Out5 V c t X
    | ⟨6, _⟩ => fun Y X => Out6 V c t Y X
  Φ t := inv V c t.val
  q _ := fullShare
  owed _ := 0
  recorded _ := recd (F := F) c b

/-- A window fetched at the first step only, whose every step leaves its buffer as found, is found holding its block. -/
theorem finds_const (b : ℕ) (w : Fin cfg1.W) (hf : ∀ t : Fin cfg1.N, (cfg1.win w).fetch t = true ↔ t.val % 49 = 0)
    (hin : (cfg1.win w).isOut = false) (hc : ∀ i a, (cfg1.win w).clip i a = none)
    (ha : ∀ t Y X, (rdat V c b).after w t Y X → X = Y) (t : Fin cfg1.N) :
    ∀ d X, (rdat V c b).Finds w t X → X = (rdat V c b).fetched w t₀ d := by
  intro d
  obtain ⟨n, hn⟩ := t
  induction n with
  | zero =>
    intro X h
    obtain ⟨d', rfl⟩ := ((rdat V c b).finds_of_fetch ((hf ⟨0, hn⟩).mpr rfl) X).mp h
    exact Pipeline.fill_of_clip_none w _ (hc _) _ _ _
  | succ n ih =>
    intro X h
    have hn' : n + 1 < 49 := hn
    have hff : (cfg1.win w).fetch ⟨n + 1, hn⟩ = false := by
      rw [← Bool.not_eq_true, hf]
      show ¬ (n + 1) % 49 = 0
      omega
    rcases ((rdat V c b).finds_of_pos hff (Nat.succ_ne_zero n) X).mp h with h | ⟨Y, hY, hX⟩
    · unfold Window.flush at h; rw [hin, Bool.false_and] at h; exact absurd h (by decide)
    · rw [ha _ _ _ hX]; exact ih _ Y hY

theorem finds0 (b : ℕ) (t : Fin cfg1.N) (X : S1024x128.Idx → Elt F .f32) (h : (rdat V c b).Finds 0 t X) : X = B0 V c :=
  finds_const V c b 0 fetch1_0 rfl (fun _ _ => rfl) (fun _ _ _ h => h) t _ X h
theorem finds1 (b : ℕ) (t : Fin cfg1.N) (X : S128x128.Idx → Elt F .f32) (h : (rdat V c b).Finds 1 t X) : X = B1 V c :=
  finds_const V c b 1 fetch1_1 rfl (fun _ _ => rfl) (fun _ _ _ h => h) t _ X h
theorem finds2 (b : ℕ) (t : Fin cfg1.N) (X : S1x128.Idx → Elt F .f32) (h : (rdat V c b).Finds 2 t X) : X = B2 V c :=
  finds_const V c b 2 fetch1_2 rfl (fun _ _ => rfl) (fun _ _ _ h => h) t _ X h
theorem finds3 (b : ℕ) (t : Fin cfg1.N) (X : S2048x128.Idx → Elt F .f32) (h : (rdat V c b).Finds 3 t X) : W3 V c t X :=
  ((rdat V c b).finds_of_fetch (fetch1_3 t) X).mp h
theorem finds4 (b : ℕ) (t : Fin cfg1.N) (X : S1x2048.Idx → Elt F .f32) (h : (rdat V c b).Finds 4 t X) : W4 V c t X :=
  ((rdat V c b).finds_of_fetch (fetch1_4 t) X).mp h

/-- One step keeps the invariant. -/
theorem body_obligation (b : ℕ) : (rdat V c b).BodyObligation (defs₀ (F := F)) 𝒱₀ none Set.univ := by
  intro t Y hY
  have e0 := finds0 V c b t (Y 0) (hY 0)
  have e1 := finds1 V c b t (Y 1) (hY 1)
  have e2 := finds2 V c b t (Y 2) (hY 2)
  have e3 := finds3 V c b t (Y 3) (hY 3)
  have e4 := finds4 V c b t (Y 4) (hY 4)
  rw [bigSep_W1, bigSep_W1]
  rw [show (rdat V c b).owesAt none t.succ = (rdat V c b).owesAt none t.castSucc from rfl,
    show (rdat V c b).Φ t.castSucc = inv V c t.val from rfl, show (rdat V c b).Φ t.succ = inv V c (t.val + 1) from rfl]
  unfold inv
  iintro ⟨⟨%h, %mx, %sm, %hr, Hs⟩, Ho, H0, H1, H2, H3, H4, H5, H6⟩
  iapply (body_run (F := F) (grid1.coords t) (Y 0) (Y 1) (Y 2) (Y 3) (Y 4) h mx sm c Set.univ
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (win1_6.stage (cfg1.slots t 6)) (hstage1_6 ((cfg1.slots t 6).cast nbuf1_6)) (Memref.whole cc1_scratch0) (Memref.isWhole_whole _)
    (Memref.whole cc1_scratch1) (Memref.isWhole_whole _) (Memref.whole cc1_scratch2) (Memref.isWhole_whole _) (Y 5) (Y 6) _)
  unfold ops3
  isplitl [H0 H1 H2]
  · isplitl [H0]; · iexact H0
    isplitl [H1]; · iexact H1
    iexact H2
  isplitl [H3]; · iexact H3
  isplitl [H4]; · iexact H4
  isplitl [H5]; · iexact H5
  isplitl [H6]; · iexact H6
  isplitl [Hs]; · iexact Hs
  iintro ⟨⟨H0, H1, H2⟩, H3, H4, H5, H6, Hs⟩
  isplitl [Hs]
  · iexists _, _, _; isplitr; swap
    · iexact Hs
    · ipureintro
      rw [e0, e1, e2]
      exact Reach.succ t hr e3 e4
  isplitl [Ho]; · iexact Ho
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]
  · iexists _; isplitr; swap; (· iexact H5); ipureintro
    rw [e0, e1, e2]
    exact ⟨h, mx, sm, Y 3, Y 4, hr, e3, e4, rfl⟩
  · iexists _; isplitr; swap; (· iexact H6); ipureintro
    rw [e0, e1, e2]
    exact ⟨_, _, _, Reach.succ t hr e3 e4, rfl⟩

/-! ## The region -/

abbrev adm (p : Fin 1) : (pcfgs (F := F) p).Adm := (cfgs p).toPCfg_adm

def rdats (b : ℕ) : (p : Fin 1) → (c : Dev nD) → RDat τ (Elt F) (HIx 1) ℕ UU ℕ (Pipeline.pin (pcfgs (F := F)) adm p) c
  | ⟨0, _⟩ => fun c => rdat V c b

/-- What the core holds of its waits: nothing owed, everything recorded below the bound. -/
def owesB (b : ℕ) : sProp 𝕄 :=
  iprop(∃ W, ⌜(K (F := F)).WBelow (c.tc : Thread nD τ) W b⌝ ∗ owes (c.tc : Thread nD τ) (0 : CellTallies nD τ sig (HIx 1)) W)

theorem owesAt_eq (b : ℕ) (t : Fin (cfg1.N + 1)) : (rdat V c b).owesAt none t ⊢ owesB (F := F) c b := by
  unfold owesB RDat.owesAt Pipeline.owesWithin
  iintro ⟨%W, %hW, HO⟩
  iexists W
  isplitr; swap
  · iexact HO
  ipureintro
  intro p hp
  rcases hW hp with h | ⟨w, s, rfl⟩
  · exact h
  · exact Nat.zero_le _

theorem owesAt_of (b : ℕ) (t : Fin (cfg1.N + 1)) : owesB (F := F) c b ⊢ (rdat V c b).owesAt none t := by
  unfold owesB RDat.owesAt Pipeline.owesWithin
  iintro ⟨%W, %hW, HO⟩
  iexists W
  isplitr; swap
  · iexact HO
  ipureintro
  exact fun p hp => Or.inl (hW p hp)

/-- The invariant gives the scratch buffers back. -/
theorem inv_out (n : ℕ) : inv V c n ⊢ iprop(emp ∗ emp ∗ Pipeline.scopedRest (Ix := HIx 1) (Name := ℕ) (U := UU) (Lvl := ℕ) (Val := Elt F) spec1 c) := by
  refine BIBase.Entails.trans ?_ (sep_mono_right (sep_mono_right (Entails.of_eq (scopedRest1_eq c).symm)))
  unfold inv scr3
  simp only [owns_whole_eq]
  iintro ⟨%h, %mx, %sm, -, ⟨%f0, -, H0⟩, ⟨%f1, -, H1⟩, ⟨%f2, -, H2⟩⟩
  isplitr; · iempintro
  isplitr; · iempintro
  isplitl [H0]; · iexists f0; iexact H0
  isplitl [H1]; · iexists f1; iexact H1
  iexists f2; iexact H2

variable (L : GSem nD τ sig → Finset (HIx 1)) (lv : GSem nD τ sig → HIx 1 → ℕ)

/-- The region: entered from the seven arrays at `V` and the core's empty debts, left with the arrays at what the
    relations allow. -/
def reg (b : ℕ) : RDat.RegionSeg (pcfgs (F := F)) adm (rdats V b) none (defs₀ (F := F)) 𝒱₀ L lv 0 where
  win := (launch1).win.to₀
  block_pos := (launch1).block_pos
  stage_whole := (launch1).stage_whole
  K := PEmpty
  osem k := k.elim
  ho := Pipeline.OwnSemFacts.none _
  hbody c := body_obligation V c b
  hwaits := RDat.hwaits_of_owed_zero _ _ _ _ L lv 0 fun _ _ => rfl
  pre c := iprop((rdat V c b).arrays (rdat V c b).A ∗ owesB (F := F) c b)
  post c := iprop((rdat V c b).arraysAt cfg1.N ∗ owesB (F := F) c b)
  X _ := BI.emp
  Y _ := BI.emp
  Z _ := BI.emp
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owesAt_of V c b 0); iexact HO
    isplitr <;> iempintro
  hin c := by
    rw [show (rdats V b 0 c).Φ 0 = inv V c 0 from rfl]
    refine (sep_elim_right.trans sep_elim_right).trans ((Entails.of_eq (scopedRest1_eq c)).trans ?_)
    unfold inv scr3
    iintro ⟨⟨%f0, H0⟩, ⟨%f1, H1⟩, ⟨%f2, H2⟩⟩
    iexists f0, f1, f2
    isplitr; · ipureintro; exact Reach.zero f0 f1 f2
    simp only [owns_whole_eq]
    isplitl [H0]; · iexists f0; isplitr; · (ipureintro; rfl)
                    iexact H0
    isplitl [H1]; · iexists f1; isplitr; · (ipureintro; rfl)
                    iexact H1
    iexists f2; isplitr; · ipureintro; rfl
    iexact H2
  hout c := by
    rw [Pipeline.ownSems0_none]
    exact inv_out V c _
  hexit c := by
    iintro ⟨Ha, HO, -, -⟩
    imodintro
    isplitl [Ha]; · iexact Ha
    iapply (owesAt_eq V c b _); iexact HO

end Cert.Proof.Pool

end
-- ==== Proof.Main.lean ====
/-
  The program's run: the first kernel's call, the two reshapes, the second kernel's region, and the three operations
  that end it. Every buffer but the program's own results is left as it was, every counter is at zero, and the result is
  the difference of the two arrays the second kernel wrote.
-/
module

public import proofs.«01_k».proof.Proof.Deal
public import proofs.«01_k».proof.Proof.Region

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (RDat)

variable (m : (ℓ : Loc nD τ sig) → Buf (Elt F) ℓ) (ρ : Dev nD → PrngReg)

/-! ## The memory between the steps -/

abbrev opR1 : HloOp τ sig (Elt F) := StableHlo.reshape main_arg3 main_v1 (rfl : (.f32 : EltTy) = .f32) shapeCasts_S128_S1x128
abbrev opR2 : HloOp τ sig (Elt F) := StableHlo.reshape main_arg5 main_v2 (rfl : (.f32 : EltTy) = .f32) shapeCasts_S100000_S1x100000
abbrev opE : HloOp τ sig (Elt F) :=
  StableHlo.unary main_v3_0 main_v4 ((extf .f32 · bitsLt_bf16_f32) : (⟨S1024x100000, .bf16⟩ : BufTy).Contents (Elt F) → (⟨S1024x100000, .f32⟩ : BufTy).Contents (Elt F))
abbrev opB : HloOp τ sig (Elt F) :=
  StableHlo.unary main_v3_1 main_v5 (broadcastInDim S1024x100000 ![0, 1] bcast_S1024x1_S1024x100000_0_1 : (⟨S1024x1, .f32⟩ : BufTy).Contents (Elt F) → (⟨S1024x100000, .f32⟩ : BufTy).Contents (Elt F))
abbrev opS : HloOp τ sig (Elt F) :=
  StableHlo.binary main_v4 main_v5 main_v6 (subf : (⟨S1024x100000, .f32⟩ : BufTy).Contents (Elt F) → (⟨S1024x100000, .f32⟩ : BufTy).Contents (Elt F) → (⟨S1024x100000, .f32⟩ : BufTy).Contents (Elt F))

/-- The memory the second kernel starts from. -/
def V₂ (d : Dev nD) : Valuation τ sig (Elt F) := opR2.result (opR1.result (V₁ m d))
/-- The same, buffer by buffer of each core. -/
def Vr : Val0 F := fun c b => V₂ m c (Proc.devRef .tc b)

abbrev B5 (F : FTy → Type) : Type := (⟨S1024x100000, .bf16⟩ : BufTy).Contents (Elt F)
abbrev B6 (F : FTy → Type) : Type := (⟨S1024x1, .f32⟩ : BufTy).Contents (Elt F)

/-- The memory after the second kernel, its two results at `G5` and `G6`. -/
def V₃ (d : Dev nD) (G5 : B5 F) (G6 : B6 F) : Valuation τ sig (Elt F) :=
  Function.update (Function.update (V₂ m d) (Proc.devRef .tc main_v3_0) G5) (Proc.devRef .tc main_v3_1) G6
/-- The memory at the end. -/
def Vf (d : Dev nD) (G5 : B5 F) (G6 : B6 F) : Valuation τ sig (Elt F) :=
  opS.result (opB.result (opE.result (V₃ m d G5 G6)))

/-- The level the first call's waits stay below. -/
abbrev bnd : ℕ := 8 * (inferInstance : SparseCore.Cfg.Blocks 1 1).fst 1

/-- What the second kernel's two results may hold at its end. -/
def Ends (d : Dev nD) (G5 : B5 F) (G6 : B6 F) : Prop :=
  (rdat (Vr m) d bnd).ArrAt 5 cfg1.N G5 ∧ (rdat (Vr m) d bnd).ArrAt 6 cfg1.N G6

/-! ## The region -/

theorem share_full (d : Dev nD) (w : Fin cfg1.W) : (rdat (Vr m) d bnd).share w = fullShare := by
  unfold RDat.share; split <;> rfl

theorem region_in (d : Dev nD) :
    (StableHlo.held (d.tc : Thread nD τ) ucRefs (V₂ m d) : sProp 𝕄)
      ⊢ iprop((rdat (Vr m) d bnd).arrays (rdat (Vr m) d bnd).A ∗ Pipeline.unscopedRest spec1 d (Vr m d)) := by
  rw [← unscopedBufs_held]
  exact RDat.arrays_of_unscopedBufs (pcfgs (F := F)) adm (rdats (Vr m) bnd) (p := 0) winFacts1 arr_whole1 d (share_full m d) (Vr m d) (fun _ => rfl)

theorem region_out (d : Dev nD) :
    iprop((rdat (Vr m) d bnd).arraysAt cfg1.N ∗ Pipeline.unscopedRest spec1 d (Vr m d))
      ⊢ (iprop(∃ G5 G6, ⌜Ends m d G5 G6⌝ ∗ StableHlo.held (d.tc : Thread nD τ) ucRefs (V₃ m d G5 G6)) : sProp 𝕄) := by
  rw [show (rdat (Vr m) d bnd).arraysAt cfg1.N = _ from RDat.arraysAt_eq (pcfgs (F := F)) adm (rdats (Vr m) bnd) 0 d arr_whole1 (share_full m d) cfg1.N]
  rw [show (Finset.univ : Finset (Fin (Pipeline.pin (pcfgs (F := F)) adm 0).W)) = (Finset.univ : Finset (Fin 7)) from rfl, bigSep_W1]
  iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩⟩, Hr⟩
  rw [RDat.ArrAt_in _ _ rfl] at h0 h1 h2 h3 h4
  subst h0 h1 h2 h3 h4
  iexists F5, F6
  isplitr; · ipureintro; exact ⟨h5, h6⟩
  rw [← unscopedBufs_held, Pipeline.unscopedBufs_split (Pipeline.pin (pcfgs (F := F)) adm) 0 winFacts1.arr_unscoped winFacts1.arr_inj d]
  rw [show (Finset.univ : Finset (Fin (Pipeline.pin (pcfgs (F := F)) adm 0).W)) = (Finset.univ : Finset (Fin 7)) from rfl, bigSep_W1]
  isplitr [Hr]
  · isplitl [H0]; · iexact H0
    isplitl [H1]; · iexact H1
    isplitl [H2]; · iexact H2
    isplitl [H3]; · iexact H3
    isplitl [H4]; · iexact H4
    isplitl [H5]; · iexact H5
    iexact H6
  · iapply (Entails.of_eq (show Pipeline.unscopedRest spec1 d (Vr m d) = Pipeline.unscopedRest spec1 d
        (fun b => V₃ m d F5 F6 (Proc.devRef .tc b)) from by
      rw [unscopedRest1_eq, unscopedRest1_eq]; rfl)); iexact Hr

theorem opR1_bufs : (opR1 (F := F)).bufs ⊆ ucRefs := by
  show ({Proc.devRef .tc main_arg3, Proc.devRef .tc main_v1} : Finset (DevRef τ sig)) ⊆ ucRefs; decide
theorem opR2_bufs : (opR2 (F := F)).bufs ⊆ ucRefs := by
  show ({Proc.devRef .tc main_arg5, Proc.devRef .tc main_v2} : Finset (DevRef τ sig)) ⊆ ucRefs; decide
theorem opE_bufs : (opE (F := F)).bufs ⊆ ucRefs := by
  show ({Proc.devRef .tc main_v3_0, Proc.devRef .tc main_v4} : Finset (DevRef τ sig)) ⊆ ucRefs; decide
theorem opB_bufs : (opB (F := F)).bufs ⊆ ucRefs := by
  show ({Proc.devRef .tc main_v3_1, Proc.devRef .tc main_v5} : Finset (DevRef τ sig)) ⊆ ucRefs; decide
theorem opS_bufs : (opS (F := F)).bufs ⊆ ucRefs := by
  show ({Proc.devRef .tc main_v4, Proc.devRef .tc main_v5, Proc.devRef .tc main_v6} : Finset (DevRef τ sig)) ⊆ ucRefs; decide

/-- The ghost state the second kernel's region starts from. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The second kernel's call, as the lifted call of its region. -/
theorem inner_entry (d : Dev nD) :
    (Prog.lift (.customCall (SparseCore.inner (Pipeline.entry 0)) ()) :
        Prog (TpuEff nD τ sig (Elt F) (SparseCore.Sig (ΛP (F := F)) 1) (SparseCore.T d : Thread nD τ).2) PUnit)
      = SparseCore.liftProg (Prog.op (.customCall (Pipeline.entry 0) ()) Prog.ret) := rfl

theorem reg_pre (d : Dev nD) : (reg (Vr m) (K (F := F)).L (K (F := F)).lev bnd).pre d
    = iprop((rdat (Vr m) d bnd).arrays (rdat (Vr m) d bnd).A ∗ owesB (F := F) d bnd) := rfl
theorem reg_post (d : Dev nD) : (reg (Vr m) (K (F := F)).L (K (F := F)).lev bnd).post d
    = iprop((rdat (Vr m) d bnd).arraysAt cfg1.N ∗ owesB (F := F) d bnd) := rfl

/-- The second kernel's call in the program, from the core's buffers to them with its two results written. -/
theorem region_run [∀ e, Nonempty (Elt F e)] (d : Dev nD) (Φ : PUnit → sProp 𝕄) :
    iprop((iprop(boundary (SparseCore.T d) ∗ owesB (F := F) d bnd ∗ ∃ G5 G6, ⌜Ends m d G5 G6⌝ ∗ StableHlo.held (SparseCore.T d) ucRefs (V₃ m d G5 G6)) -∗ Φ ⟨⟩)
        ∗ boundary (SparseCore.T d) ∗ owesB (F := F) d bnd ∗ StableHlo.held (SparseCore.T d) ucRefs (V₂ m d)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  rw [inner_entry d]
  refine BIBase.Entails.trans ?_ ((K (F := F)).wp_liftProg (D (F := F)) 𝒱 _ Set.univ none _ Φ)
  refine BIBase.Entails.trans ?_ (RDat.RegionSeg.wp (pcfgs (F := F)) adm (rdats (Vr m) bnd) none (by exact cellOf_inj) EP (defs₀ (F := F)) 𝒱₀
    (K (F := F)).L (K (F := F)).lev (reg (Vr m) (K (F := F)).L (K (F := F)).lev bnd) d none (fun _ h => nomatch h) Prog.ret Φ)
  iintro ⟨Hk, Hb, HO, Hh, Hl, Hg, Ht⟩
  ihave Hin := (region_in m d) $$ Hh
  icases Hin with ⟨Ha, Hr⟩
  isplitl [Hk Hr]
  · iintro ⟨Hb, Hpost⟩
    ihave Hpost' := (Entails.of_eq (reg_post m d)) $$ Hpost
    icases Hpost' with ⟨Ha, HO⟩
    rw [wp_ret]; imodintro
    iapply Hk
    isplitl [Hb]; · iexact Hb
    isplitl [HO]; · iexact HO
    iapply (region_out m d)
    isplitl [Ha]; · iexact Ha
    iexact Hr
  isplitl [Hb]; · iexact Hb
  isplitl [Ha HO]
  · iapply (Entails.of_eq (reg_pre m d).symm)
    isplitl [Ha]; · iexact Ha
    iexact HO
  isplitl [Hl]; · iexact Hl
  isplitl [Hg]; · iexact Hg
  iexact Ht

/-- The core's debts after the call, as the launch states them. -/
theorem owes_back (d : Dev nD) : owesB (F := F) d bnd
    ⊢ (iprop(∃ W, ⌜(K (F := F)).WBelow (SparseCore.T d) W bnd⌝ ∗ owes (SparseCore.T d) ((K (F := F)).Otc d 1) W) : sProp 𝕄) := by
  rw [(K (F := F)).Otc_end d (n := 1) le_rfl]; exact .rfl

theorem owes_take (d : Dev nD) :
    (iprop(∃ W, ⌜(K (F := F)).WBelow (SparseCore.T d) W bnd⌝ ∗ owes (SparseCore.T d) ((K (F := F)).Otc d 1) W) : sProp 𝕄)
      ⊢ owesB (F := F) d bnd := by
  rw [(K (F := F)).Otc_end d (n := 1) le_rfl]; exact .rfl

/-! ## The program on the TensorCore -/

/-- What the program ends with: the core's buffers at the final memory, for some contents the second kernel allows. -/
abbrev FIN (d : Dev nD) : sProp 𝕄 :=
  iprop(∃ G5 G6, ⌜Ends m d G5 G6⌝ ∗ StableHlo.held (SparseCore.T d) ucRefs (Vf m d G5 G6))

theorem held_V₀ (d : Dev nD) :
    (unscopedBufs d (fun b => m ((SparseCore.T d).loc b)) : sProp 𝕄)
      = iprop((iLoc d ↦{fullShare} m (iLoc d)) ∗ (xLoc d ↦{fullShare} m (xLoc d)) ∗ (oLoc d ↦{fullShare} m (oLoc d))
          ∗ StableHlo.held (SparseCore.T d) restRefs (V₀ m d)) :=
  (unscopedBufs_held d (V₀ m d)).trans (held_three d (V₀ m d))

theorem held_V₁ (d : Dev nD) :
    (StableHlo.held (SparseCore.T d) ucRefs (V₁ m d) : sProp 𝕄)
      = iprop((iLoc d ↦{fullShare} m (iLoc d)) ∗ (xLoc d ↦{fullShare} m (xLoc d)) ∗ (oLoc d ↦{fullShare} pooledAt m d)
          ∗ StableHlo.held (SparseCore.T d) restRefs (V₀ m d)) := by
  rw [show (StableHlo.held (SparseCore.T d) ucRefs (V₁ m d) : sProp 𝕄) = _ from held_three d (V₁ m d), V₁_v0, V₁_ne m d (by decide), V₁_ne m d (by decide),
    StableHlo.held_congr (SparseCore.T d) (S := restRefs) (V := V₁ m d) (V' := V₀ m d) (fun b hb => V₁_ne m d (by rintro rfl; exact absurd hb (by decide)))]

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_V₀]
  simp only [main, wp_bind, wp_pure]
  iintro ⟨#Hctx, Hst, ⟨Hb, ⟨Hi, Hx, Ho, Hr⟩, Hts, -⟩, HG⟩
  iapply ((K (F := F)).wp_run (D (F := F)) 𝒱 (EH := EH) (P := P m) κ d 0) $$ [Hst Hi Hx Ho Hr Hb Hts HG]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  ihave Hh := (Entails.of_eq (held_V₁ m d).symm) $$ [Hi Hx Ho Hr]
  · isplitl [Hi]; · iexact Hi
    isplitl [Hx]; · iexact Hx
    isplitl [Ho]; · iexact Ho
    iexact Hr
  -- the two reshapes
  iapply (StableHlo.wp_hlo_within 𝒱 (SparseCore.T d) none Set.univ (opR1_bufs (F := F))) $$ [Hb Hh]
  · isplitl [Hb] <;> iassumption
  iintro ⟨Hb, Hh⟩
  rw [wp_ret]; imodintro
  iapply (StableHlo.wp_hlo_within 𝒱 (SparseCore.T d) none Set.univ (opR2_bufs (F := F))) $$ [Hb Hh]
  · isplitl [Hb] <;> iassumption
  iintro ⟨Hb, Hh⟩
  rw [wp_ret]; imodintro
  -- the region
  ihave Hst := (show (K (F := F)).tcSt EH d ((0 : Fin 1).val + 1) ⊢ ((K (F := F)).tcSt EH d 1 : sProp 𝕄) from .rfl) $$ Hst
  unfold SparseCore.Cfg.tcSt
  icases Hst with ⟨HO, Hst⟩
  ihave HO := (owes_take (F := F) d) $$ HO
  ihave Hl := ((K (F := F)).ctx_levAts κ) $$ Hctx
  iapply (region_run m d)
  isplitr [Hb HO Hh Hl HG]
  · iintro ⟨Hb, HO, %G5, %G6, %hE, Hh⟩
    iapply (StableHlo.wp_hlo_within 𝒱 (SparseCore.T d) none Set.univ (opE_bufs (F := F))) $$ [Hb Hh]
    · isplitl [Hb] <;> iassumption
    iintro ⟨Hb, Hh⟩
    rw [wp_ret]; imodintro
    iapply (StableHlo.wp_hlo_within 𝒱 (SparseCore.T d) none Set.univ (opB_bufs (F := F))) $$ [Hb Hh]
    · isplitl [Hb] <;> iassumption
    iintro ⟨Hb, Hh⟩
    rw [wp_ret]; imodintro
    iapply (StableHlo.wp_hlo_within 𝒱 (SparseCore.T d) none Set.univ (opS_bufs (F := F))) $$ [Hb Hh]
    · isplitl [Hb] <;> iassumption
    iintro ⟨Hb, Hh⟩
    rw [wp_ret]; imodintro; imodintro
    isplitl [HO Hst]
    · isplitl [HO]
      · iapply (owes_back (F := F) d); iexact HO
      iexact Hst
    isplitl [Hh]
    · iexists G5, G6
      isplitr; · ipureintro; exact hE
      iexact Hh
    isplitl [Hb] <;> iassumption
  isplitl [Hb]; · iexact Hb
  isplitl [HO]; · iexact HO
  isplitl [Hh]; · iexact Hh
  isplitl [Hl]; · iexact Hl
  iexact HG

/-! ## The final memory -/

/-- What a final state's memory holds on device `d`. -/
def fq (d : Dev nD) (s' : Phys nD τ sig (Elt F)) : Prop :=
  ∃ G5 G6, Ends m d G5 G6 ∧ ∀ b ∈ ucRefs, s'.mem.mem (d, b) = Vf m d G5 G6 b

theorem held_read (d : Dev nD) (W : Valuation τ sig (Elt F)) (s' : Phys nD τ sig (Elt F)) :
    iprop(StableHlo.held (SparseCore.T d) ucRefs W ∗ SI s') ⊢ (⌜∀ b ∈ ucRefs, s'.mem.mem (d, b) = W b⌝ : sProp 𝕄) := by
  refine BIBase.Entails.trans (forall_intro fun b => ?_) pure_forall.2
  refine BIBase.Entails.trans (forall_intro fun hb => ?_) pure_forall.2
  rw [show (StableHlo.held (SparseCore.T d) ucRefs W : sProp 𝕄) = bigSep ucRefs fun b => ((d, b) : Loc nD τ sig) ↦{fullShare} W b from rfl]
  iintro ⟨H, HSI⟩
  ihave Hb := (show (bigSep ucRefs fun b : DevRef τ sig => (((d, b) : Loc nD τ sig) ↦{fullShare} W b : sProp 𝕄)) ⊢ (((d, b) : Loc nD τ sig) ↦{fullShare} W b)
    from bigSep_elim (Φ := fun b : DevRef τ sig => (((d, b) : Loc nD τ sig) ↦{fullShare} W b : sProp 𝕄)) hb) $$ H
  ihave H := (SI_pointsTo_agree (st := s') (ℓ := (d, b)) (I := Finset.univ) (q := fullShare) (f := W b)) $$ [HSI Hb]
  · isplitl [HSI] <;> iassumption
  icases H with %h
  ipureintro
  exact funext fun i => h i (Finset.mem_univ i)

theorem hfin (d : Dev nD) (s' : Phys nD τ sig (Elt F)) : iprop(FIN m d ∗ SI s') ⊢ (⌜fq m d s'⌝ : sProp 𝕄) := by
  iintro ⟨⟨%G5, %G6, %hE, Hh⟩, HSI⟩
  ihave H := (held_read d (Vf m d G5 G6) s') $$ [Hh HSI]
  · isplitl [Hh] <;> iassumption
  icases H with %h
  ipureintro
  exact ⟨G5, G6, hE, h⟩

/-- The references the program writes. -/
abbrev outRefs : Finset (DevRef τ sig) :=
  {Proc.devRef .tc main_v0, Proc.devRef .tc main_v1, Proc.devRef .tc main_v2, Proc.devRef .tc main_v3_0, Proc.devRef .tc main_v3_1,
    Proc.devRef .tc main_v4, Proc.devRef .tc main_v5, Proc.devRef .tc main_v6}

theorem V₂_kept (d : Dev nD) {b : DevRef τ sig} (hb : b ∉ outRefs) : V₂ m d b = m (d, b) := by
  unfold V₂
  rw [opR2.result_of_not_mem _ (fun h => hb (by rw [Finset.mem_singleton.mp h]; decide)),
    opR1.result_of_not_mem _ (fun h => hb (by rw [Finset.mem_singleton.mp h]; decide)),
    V₁_ne m d (b := b) (fun h => hb (by rw [h]; decide))]

/-- Every other buffer ends as launched. -/
theorem Vf_kept (d : Dev nD) (G5 : B5 F) (G6 : B6 F) {b : DevRef τ sig} (hb : b ∉ outRefs) : Vf m d G5 G6 b = m (d, b) := by
  unfold Vf
  rw [opS.result_of_not_mem _ (fun h => hb (by rw [Finset.mem_singleton.mp h]; decide)),
    opB.result_of_not_mem _ (fun h => hb (by rw [Finset.mem_singleton.mp h]; decide)),
    opE.result_of_not_mem _ (fun h => hb (by rw [Finset.mem_singleton.mp h]; decide))]
  unfold V₃
  rw [Function.update_of_ne (a := b) (fun h => hb (by rw [h]; decide)), Function.update_of_ne (a := b) (fun h => hb (by rw [h]; decide)), V₂_kept m d hb]

/-! ## The launch -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] [Named F] in
theorem own_EP (u : UP) : (BI.own (((Emb.inl : Emb UP (UP × Counters)).trans (embR : Emb (UP × Counters) 𝕄)) u) : sProp 𝕄) = BI.own (EP (F := F) u) := rfl

omit [FloatOps F] [Named F] in
/-- No thread is handed anything more. -/
theorem all_emp : (bigSep Finset.univ fun _ : Thread nD τ => iprop(emp)) = (iprop(emp) : sProp 𝕄) := bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR' := (own_pair_emb (A := UP) (B := Counters) embR (initOf (Pipeline.cells (nD := nD) (τ := τ) cfgs cellOf_inj)
    (Pipeline.launchToks (nD := nD) (τ := τ) cfgs cellOf_inj)) 1) $$ HR
  icases HR' with ⟨HP, -⟩
  ihave HP := (Entails.of_eq (own_EP (F := F) _)) $$ HP
  imod (show (BI.own (EP (F := F) (initOf (Pipeline.cells (nD := nD) (τ := τ) cfgs cellOf_inj) (Pipeline.launchToks (nD := nD) (τ := τ) cfgs cellOf_inj))) : sProp 𝕄)
      ⊢ _ from Pipeline.fund_ghost cfgs EP cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1)
        (Φ := fun p => (Pipeline.cellsGhost cfgs EP p d : sProp 𝕄)))); iexact Hc
    · iapply (Entails.of_eq (bigSep_congr fun d _ => bigSep_univ_of_subsingleton (0 : Fin 1)
        (Φ := fun p => (Pipeline.toksInit cfgs EP p d : sProp 𝕄)))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), all_emp]
  iempintro

/-- What every run of the program ends in. -/
def QC : PUnit × MemSt nD τ sig (Elt F) → Prop := fun r =>
  (∀ d : Dev nD, ∃ G5 G6, Ends m d G5 G6 ∧ ∀ b ∈ ucRefs, r.2.mem (d, b) = Vf m d G5 G6 b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

/-- The six arguments of device `c` end as launched. -/
def ArgsKept (r : MemSt nD τ sig (Elt F)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)

theorem args_of_QC {r : PUnit × MemSt nD τ sig (Elt F)} (h : QC m r) (c : Dev nD) : ArgsKept m r.2 c := by
  obtain ⟨G5, G6, -, hb⟩ := h.1 c
  have key : ∀ b : Ref sig .tc, Proc.devRef .tc b ∈ ucRefs → Proc.devRef .tc b ∉ outRefs →
      r.2.mem ((c.tc : Thread nD τ).loc b) = m ((c.tc : Thread nD τ).loc b) :=
    fun b h1 h2 => (hb _ h1).trans (Vf_kept m c G5 G6 h2)
  exact ⟨key _ (by decide) (by decide), key _ (by decide) (by decide), key _ (by decide) (by decide), key _ (by decide) (by decide),
    key _ (by decide) (by decide), key _ (by decide) (by decide)⟩

end Cert.Proof.Pool

end
-- ==== Proof.Claims.lean ====
/-
  The claims of the two kernel programs and of the reference that speak of the arguments and of the counters, and the
  statement that the named constants are the constants they stand for.
-/
module

public import proofs.«01_k».proof.Defs
public import proofs.«01_k».proof.Proof.Pre
public import proofs.«01_k».proof.Proof.PreFinite
public import proofs.«01_k».proof.Proof.Main
public import proofs.«01_k».proof.Proof.Bits.Main
public import proofs.«01_k».proof.Proof.Gen.ReferenceIdeal.Run
public import proofs.«01_k».proof.Proof.Gen.Pre_in_range
public import proofs.«01_k».proof.Proof.Gen.Pre_in_range_and_finite
public import Idealize.ShloMosaic.Lib.Quiescent

@[expose] public section

noncomputable section

namespace Cert.Proof

open Idealize.ShloMosaic Idealize.SL.Sem

instance (e : EltTy) : Nonempty (Elt Bits e) := by cases e <;> exact ⟨by first | exact (0 : BitVec _) | exact Classical.choice inferInstance⟩

/-- The kernel as it is printed, on the machine's own numbers. -/
theorem frame_p : Cert.quiescent_Kernel := fun m g hpre =>
  (θ_run Cert.Kernel.defs _ _).mono (fun _ h => ⟨PoolBits.args_of_QC m h, h.2⟩)
    (PoolBits.run_main m g fun d j => Pre.in_range (hpre d) j)

/-- The same of its ideal text. -/
theorem frame_pi : Cert.quiescent_KernelIdeal := fun m g hpre =>
  (θ_run Cert.KernelIdeal.defs _ _).mono (fun _ h => ⟨Pool.args_of_QC m h, h.2⟩)
    (Pool.run_main m g fun d j => Pre.in_range (hpre d) j)

theorem frame_pi_finite : Cert.quiescent_KernelIdeal_pre_in_range_and_finite := fun m g hpre =>
  (θ_run Cert.KernelIdeal.defs _ _).mono (fun _ h => ⟨Pool.args_of_QC m h, h.2⟩)
    (Pool.run_main m g fun d j => (Pre.parts (hpre d)).1 j)

/-- The reference runs and leaves its arguments alone; it has no counter. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_finite : Cert.quiescent_ReferenceIdeal_pre_in_range_and_finite := fun m g _ => frame_ri m g trivial

/-- The named constants stand for the constants printed. -/
theorem preserves : Cert.preserves_Kernel_KernelIdeal :=
  ⟨IdealRules.named_const.statement Cert.KernelIdeal.κ "inv_s" .f32 0x3CA3D70A#32 ((50⁻¹ : ℝ) : EReal) rfl,
    IdealRules.named_const.statement Cert.KernelIdeal.κ "mask" .f32 0xF149F2CA#32 ⊥ rfl⟩

end Cert.Proof

end
-- ==== Proof.Blocks.lean ====
/-
  The second kernel's blocks at coordinates: what each staging buffer holds of the array it was fetched from.
-/
module

public import proofs.«01_k».proof.Proof.Region
public import Idealize.ShloMosaic.Lib.Pipeline.ValueKit.Geometry
public import Idealize.ShloMosaic.Lib.Pointwise

@[expose] public section

noncomputable section

namespace Cert.Proof.Pool

open Cert.KernelIdeal Cert.KernelIdeal.Gen
open Idealize.ShloMosaic
open Idealize.ShloMosaic.Pipeline (RDat Window)

variable {F : FTy → Type} [FloatOps F] [Named F]

theorem coords_val : ∀ t : Fin grid1.N, (grid1.coords t 0).val = t.val := by decide +kernel

theorem index0 : ∀ t : Fin grid1.N, win1_0.index t = ![0, 0] := by decide +kernel
theorem index1 : ∀ t : Fin grid1.N, win1_1.index t = ![0, 0] := by decide +kernel
theorem index2 : ∀ t : Fin grid1.N, win1_2.index t = ![0, 0] := by decide +kernel
theorem index3 : ∀ t : Fin grid1.N, win1_3.index t = ![t.val, 0] := by decide +kernel
theorem index4 : ∀ t : Fin grid1.N, win1_4.index t = ![0, t.val] := by decide +kernel
theorem index5 : ∀ t : Fin grid1.N, win1_5.index t = ![0, t.val] := by decide +kernel

theorem xsize3 : ∀ t : Fin grid1.N, win1_3.xsize (grid1.coords t) = ![min 2048 (100000 - 2048 * t.val), 128] := by decide +kernel
theorem xsize4 : ∀ t : Fin grid1.N, win1_4.xsize (grid1.coords t) = ![1, min 2048 (100000 - 2048 * t.val)] := by decide +kernel
theorem xsize5 : ∀ t : Fin grid1.N, win1_5.xsize (grid1.coords t) = ![1024, min 2048 (100000 - 2048 * t.val)] := by decide +kernel

variable (V : Val0 F) (c : Dev nD)

theorem B0_eq : B0 V c = V c main_v0 := by
  funext y
  unfold B0
  rw [show (win1_0.fill (grid1.coords t₀) (fun _ => Scalar.ofBits .f32 0#32) ((win1_0.blk t₀).view.read (Elt F) (V c main_v0)))
    = (win1_0.blk t₀).view.read (Elt F) (V c main_v0) from rfl]
  blk_simp
  congr 1
  blk_ext [index0]

theorem B1_eq : B1 V c = V c main_arg2 := by
  funext y
  unfold B1
  rw [show (win1_1.fill (grid1.coords t₀) (fun _ => Scalar.ofBits .f32 0#32) ((win1_1.blk t₀).view.read (Elt F) (V c main_arg2)))
    = (win1_1.blk t₀).view.read (Elt F) (V c main_arg2) from rfl]
  blk_simp
  congr 1
  blk_ext [index1]

theorem B2_eq : B2 V c = V c main_v1 := by
  funext y
  unfold B2
  rw [show (win1_2.fill (grid1.coords t₀) (fun _ => Scalar.ofBits .f32 0#32) ((win1_2.blk t₀).view.read (Elt F) (V c main_v1)))
    = (win1_2.blk t₀).view.read (Elt F) (V c main_v1) from rfl]
  blk_simp
  congr 1
  blk_ext [index2]

theorem W3_at {t : Fin grid1.N} {X : S2048x128.Idx → Elt F .f32} (h : W3 V c t X) (j : Fin 2048) (k : Fin 128)
    (hj : 2048 * t.val + j.val < 100000) : X (ix2 j k) = V c main_arg4 (ix2 ⟨2048 * t.val + j.val, hj⟩ k) := by
  obtain ⟨d, rfl⟩ := h
  have hm : ∀ a, ((ix2 j k : S2048x128.Idx) a).val < win1_3.xsize (grid1.coords t) a := by
    rw [xsize3]
    intro a
    match a with
    | 0 => show j.val < min 2048 (100000 - 2048 * t.val); omega
    | 1 => exact k.isLt
  unfold Window.fill
  rw [dif_pos ((win1_3.moved_iff _ _).mpr hm)]
  blk_simp
  congr 1
  blk_ext [index3]

theorem W4_at {t : Fin grid1.N} {X : S1x2048.Idx → Elt F .f32} (h : W4 V c t X) (j : Fin 2048)
    (hj : 2048 * t.val + j.val < 100000) : X (ix2 0 j) = V c main_v2 (ix2 0 ⟨2048 * t.val + j.val, hj⟩) := by
  obtain ⟨d, rfl⟩ := h
  have hm : ∀ a, ((ix2 0 j : S1x2048.Idx) a).val < win1_4.xsize (grid1.coords t) a := by
    rw [xsize4]
    intro a
    match a with
    | 0 => exact Nat.one_pos
    | 1 => show j.val < min 2048 (100000 - 2048 * t.val); omega
  unfold Window.fill
  rw [dif_pos ((win1_4.moved_iff _ _).mpr hm)]
  blk_simp
  congr 1
  blk_ext [index4]

end Cert.Proof.Pool

end
-- ==== Proof.Pay.lean ====
/-
  What the second kernel computes in a step, read at one position, on the extended reals: there the conversions between
  the float formats are exact, and the mask of the columns past the end is the lower infinity.
-/
module

public import proofs.«01_k».proof.Proof.Gen.KernelIdeal.Skeleton
public import Idealize.ShloMosaic.Lib.Pointwise
public import Idealize.ShloMosaic.Lib.WordCmp

@[expose] public section

noncomputable section

namespace Cert.Proof.Pool

open Cert.KernelIdeal Cert.KernelIdeal.Gen
open Idealize.ShloMosaic

theorem mask_eq : (Named.named (F := Ideal) κ "mask" 0xF149F2CA#32 : Ideal .f32) = (⊥ : EReal) :=
  IdealRules.named_const.ideal_named_scalar _ _ _ _ rfl

theorem neg_inf_eq : (Ideal.ofBits .f32 0xFF800000#32 : EReal) = ⊥ := by
  simp [Ideal.ofBits, Ideal.ieee]

/-- The test of a column's number against the number of columns. -/
theorem col_word (n : Fin 49) (j : Fin 2048) :
    IntOp.cmpi .slt (IntOp.addi (Scalar.muli (BitVec.ofNat 32 n.val) 2048#32) (BitVec.ofNat 32 j.val)) 100000#32
      = BitVec.ofBool (decide (2048 * n.val + j.val < 100000)) := by
  have hn := n.isLt
  have hj := j.isLt
  have hw : IntOp.addi (Scalar.muli (BitVec.ofNat 32 n.val) 2048#32) (BitVec.ofNat 32 j.val) = BitVec.ofNat 32 (2048 * n.val + j.val) := by
    show BitVec.ofNat 32 n.val * BitVec.ofNat 32 2048 + BitVec.ofNat 32 j.val = _
    rw [← BitVec.ofNat_mul, ← BitVec.ofNat_add, Nat.mul_comm]
  rw [hw, WordCmp.cmpi_slt_eq, WordCmp.toInt_ofNat_of_lt (by norm_num; omega), WordCmp.toInt_ofNat_of_lt (by norm_num)]
  norm_cast

theorem pay1_eq (x : FVec Ideal S1024x1 .f32) : k1_pay1 (F := Ideal) x = x := shapeCast_id _ _
theorem pay2_eq (x : FVec Ideal S1024x1 .f32) : k1_pay2 (F := Ideal) x = x := shapeCast_id _ _
theorem pay3_eq (x : FVec Ideal S1024x2048 .f32) : k1_pay3 (F := Ideal) x = x := rfl

theorem pay4_at (x y : FVec Ideal S1024x1 .f32) (r : Fin 1024) :
    k1_pay4 (F := Ideal) x y (ix2 r 0) = x (ix2 r 0) + Ideal.log (y (ix2 r 0)) := rfl

theorem pay6_at (r : Fin 1024) : k1_pay6 (F := Ideal) (ix2 r 0) = ⊥ := by
  unfold k1_pay6
  rw [shapeCast_id]
  exact mask_eq

theorem pay7_at (r : Fin 1024) : k1_pay7 (F := Ideal) (ix2 r 0) = 0 := by
  unfold k1_pay7
  rw [shapeCast_id]
  exact Ideal.ofBits_zero_f32

theorem pay5_at (X0 : FVec Ideal S1024x128 .f32) (X1 : FVec Ideal S128x128 .f32) (X2 : FVec Ideal S1x128 .f32) (r : Fin 1024) (k : Fin 128) :
    k1_pay5 (F := Ideal) X0 X1 X2 (ix2 r k) = max ((∑ e : Fin 128, X0 (ix2 r e) * X1 (ix2 k e)) + X2 (ix2 0 k)) 0 := by
  pointwise [k1_pay5]

theorem pay8_at (i : grid1.Coords) (X3 : FVec Ideal S2048x128 .f32) (h : FVec Ideal S1024x128 .bf16) (X4 : FVec Ideal S1x2048 .f32) (r : Fin 1024) (j : Fin 2048) :
    k1_pay8 (F := Ideal) i X3 h X4 (ix2 r j) = if 2048 * (i 0).val + j.val < 100000 then (∑ k : Fin 128, h (ix2 r k) * X3 (ix2 j k)) + X4 (ix2 0 j) else ⊥ := by
  pointwise [k1_pay8]
  refine (congrArg (fun b => Scalar.select b _ _) (col_word (i 0) j)).trans ?_
  rw [mask_eq]
  unfold Scalar.select
  simp only [WordCmp.ofBool_eq_one_iff', decide_eq_true_eq]

theorem pay9_at (i : grid1.Coords) (X3 : FVec Ideal S2048x128 .f32) (h : FVec Ideal S1024x128 .bf16) (X4 : FVec Ideal S1x2048 .f32)
    (mx : FVec Ideal S1024x1 .f32) (r : Fin 1024) :
    k1_pay9 (F := Ideal) i X3 h X4 mx (ix2 r 0)
      = max (mx (ix2 r 0)) ((Finset.univ : Finset (Fin 2048)).fold max ⊥ fun j => k1_pay8 (F := Ideal) i X3 h X4 (ix2 r j)) := by
  pointwise [k1_pay9]
  rw [neg_inf_eq]

theorem pay10_at (i : grid1.Coords) (X3 : FVec Ideal S2048x128 .f32) (h : FVec Ideal S1024x128 .bf16) (X4 : FVec Ideal S1x2048 .f32)
    (mx sm mx' : FVec Ideal S1024x1 .f32) (r : Fin 1024) :
    k1_pay10 (F := Ideal) i X3 h X4 mx sm mx' (ix2 r 0)
      = sm (ix2 r 0) * Ideal.exp (mx' (ix2 r 0) - k1_pay9 (F := Ideal) i X3 h X4 mx (ix2 r 0))
        + ∑ j : Fin 2048, Ideal.exp (k1_pay8 (F := Ideal) i X3 h X4 (ix2 r j) - k1_pay9 (F := Ideal) i X3 h X4 mx (ix2 r 0)) := by
  pointwise [k1_pay10]

end Cert.Proof.Pool

end
-- ==== Proof.Online.lean ====
/-
  The logarithm of a sum of exponentials, computed block by block with a running maximum: whatever real number each
  step's maximum is, the sum kept relative to it is the sum over the columns met so far, and at the end the maximum plus
  the logarithm of the sum does not depend on it.
-/
module

public import Idealize.ShloMosaic.PureOps.Ideal
public import Mathlib.Analysis.SpecialFunctions.Log.Basic

@[expose] public section

noncomputable section

namespace Cert.Proof.Online

open Idealize.ShloMosaic

variable (l : ℕ → ℝ) (N : ℕ)

/-- One column's exponential relative to `μ`; a column past the end counts nothing. -/
def term (μ : ℝ) (v : ℕ) : ℝ := if v < N then Real.exp (l v - μ) else 0

/-- The sum over the columns below `c`. -/
def part (μ : ℝ) (c : ℕ) : ℝ := ∑ v ∈ Finset.range c, term l N μ v

theorem part_rescale (μ μ' : ℝ) (c : ℕ) : part l N μ c * Real.exp (μ - μ') = part l N μ' c := by
  unfold part
  rw [Finset.sum_mul]
  refine Finset.sum_congr rfl fun v _ => ?_
  unfold term
  split
  · rw [← Real.exp_add]; congr 1; ring
  · exact zero_mul _

theorem part_add (μ : ℝ) (c b : ℕ) : part l N μ (c + b) = part l N μ c + ∑ j : Fin b, term l N μ (c + j.val) := by
  unfold part
  rw [Finset.sum_range_add, Finset.sum_range fun j => term l N μ (c + j)]

theorem part_end (μ : ℝ) {c : ℕ} (hc : N ≤ c) : part l N μ c = part l N μ N := by
  obtain ⟨b, rfl⟩ := Nat.exists_eq_add_of_le hc
  rw [part_add]
  refine (add_eq_left).mpr (Finset.sum_eq_zero fun j _ => if_neg (by omega))

/-- The maximum plus the logarithm of the sum is the logarithm of the sum of the plain exponentials. -/
theorem lse (hN : 0 < N) (μ : ℝ) : μ + Real.log (part l N μ N) = Real.log (∑ v ∈ Finset.range N, Real.exp (l v)) := by
  have e : part l N μ N = (∑ v ∈ Finset.range N, Real.exp (l v)) * Real.exp (-μ) := by
    unfold part
    rw [Finset.sum_mul]
    refine Finset.sum_congr rfl fun v hv => ?_
    unfold term
    rw [if_pos (Finset.mem_range.mp hv), ← Real.exp_add]
    rfl
  have hp : 0 < ∑ v ∈ Finset.range N, Real.exp (l v) :=
    Finset.sum_pos (fun v _ => Real.exp_pos _) ⟨0, Finset.mem_range.mpr hN⟩
  rw [e, Real.log_mul hp.ne' (Real.exp_pos _).ne', Real.log_exp]
  ring

theorem part_pos (hN : 0 < N) (μ : ℝ) : 0 < part l N μ N := by
  refine Finset.sum_pos (fun v hv => ?_) ⟨0, Finset.mem_range.mpr hN⟩
  unfold term
  rw [if_pos (Finset.mem_range.mp hv)]
  exact Real.exp_pos _

/-! ### On the extended reals -/

/-- A column as the step reads it: the logit, or the mask past the end. -/
def col (v : ℕ) : EReal := if v < N then (l v : EReal) else ⊥

theorem exp_col (μ : ℝ) (v : ℕ) : Ideal.exp (col l N v - (μ : EReal)) = (term l N μ v : EReal) := by
  unfold col term
  split
  · rw [← EReal.coe_sub, Ideal.exp_coe]
  · rw [EReal.bot_sub, Ideal.exp_bot, EReal.coe_zero]

theorem coe_sum {ι : Type*} (s : Finset ι) (f : ι → ℝ) : ∑ j ∈ s, (f j : EReal) = ((∑ j ∈ s, f j : ℝ) : EReal) := by
  induction s using Finset.cons_induction with
  | empty => simp
  | cons a s ha ih => rw [Finset.sum_cons, Finset.sum_cons, ih, EReal.coe_add]

/-- A maximum of numbers none of which is the upper infinity is not either, and is above each of them. -/
theorem fold_max_lt {ι : Type*} (s : Finset ι) (f : ι → EReal) (hf : ∀ j ∈ s, f j < ⊤) : s.fold max ⊥ f < ⊤ := by
  rw [Finset.fold_max_lt]
  exact ⟨bot_lt_top, hf⟩

theorem le_fold_max {ι : Type*} (s : Finset ι) (f : ι → EReal) {j : ι} (hj : j ∈ s) : f j ≤ s.fold max ⊥ f := by
  rw [Finset.le_fold_max]
  exact .inr ⟨j, hj, le_rfl⟩

theorem col_lt (v : ℕ) : col l N v < ⊤ := by
  unfold col
  split
  · exact EReal.coe_lt_top _
  · exact bot_lt_top

/-- What the running maximum and the running sum hold after the columns below `c`. -/
def State (c : ℕ) (mx sm : EReal) : Prop :=
  (c = 0 ∧ mx = ⊥ ∧ sm = 0) ∨ ∃ μ : ℝ, mx = (μ : EReal) ∧ sm = (part l N μ c : EReal)

/-- One step, over the next `b` columns, of which the first is not past the end. -/
theorem State.step {c b : ℕ} (hb : 0 < b) (hc : c < N) {mx sm : EReal} (h : State l N c mx sm) {mx' : EReal}
    (hmx : mx' = max mx ((Finset.univ : Finset (Fin b)).fold max ⊥ fun j => col l N (c + j.val))) :
    State l N (c + b) mx' (sm * Ideal.exp (mx - mx') + ∑ j : Fin b, Ideal.exp (col l N (c + j.val) - mx')) := by
  have hlt : mx' < ⊤ := by
    rw [hmx, max_lt_iff]
    refine ⟨?_, fold_max_lt _ _ fun j _ => col_lt l N _⟩
    rcases h with ⟨-, rfl, -⟩ | ⟨μ, rfl, -⟩
    · exact bot_lt_top
    · exact EReal.coe_lt_top _
  have hgt : ⊥ < mx' := by
    have h0 : (l c : EReal) ≤ mx' := by
      rw [hmx]
      refine le_trans ?_ (le_max_right _ _)
      have := le_fold_max (Finset.univ : Finset (Fin b)) (fun j => col l N (c + j.val)) (Finset.mem_univ ⟨0, hb⟩)
      refine le_trans (le_of_eq ?_) this
      show _ = col l N (c + 0)
      unfold col
      rw [if_pos (by omega), Nat.add_zero]
    exact lt_of_lt_of_le (EReal.bot_lt_coe _) h0
  clear hmx
  lift mx' to ℝ using ⟨hlt.ne, hgt.ne'⟩ with μ'
  refine .inr ⟨μ', rfl, ?_⟩
  rw [part_add, EReal.coe_add, ← coe_sum]
  have hs : ∑ j : Fin b, Ideal.exp (col l N (c + j.val) - (μ' : EReal)) = ∑ j : Fin b, (term l N μ' (c + j.val) : EReal) :=
    Finset.sum_congr rfl fun j _ => exp_col l N μ' _
  rw [hs]
  congr 1
  rcases h with ⟨rfl, rfl, rfl⟩ | ⟨μ, rfl, rfl⟩
  · rw [EReal.bot_sub, Ideal.exp_bot, zero_mul]
    simp [part]
  · rw [← EReal.coe_sub, Ideal.exp_coe, ← EReal.coe_mul, part_rescale]

/-- After the last step the maximum plus the logarithm of the sum is the logarithm of the sum of exponentials. -/
theorem State.lse {c : ℕ} {mx sm : EReal} (h : State l N c mx sm) (hN : 0 < N) (hc : N ≤ c) :
    mx + Ideal.log sm = (Real.log (∑ v ∈ Finset.range N, Real.exp (l v)) : EReal) := by
  rcases h with ⟨rfl, -, -⟩ | ⟨μ, rfl, rfl⟩
  · omega
  · rw [part_end l N μ hc, Ideal.log_coe, if_neg (not_le.mpr (part_pos l N hN μ)), ← EReal.coe_add, Online.lse l N hN]

/-- A whole row at once, relative to any real number: the shape in which the reference computes it. -/
theorem row (hN : 0 < N) (μ : ℝ) (v : ℕ) :
    ((l v : EReal) - (μ : EReal)) - Ideal.log (∑ j : Fin N, Ideal.exp ((l j.val : EReal) - (μ : EReal)))
      = ((l v - Real.log (∑ v ∈ Finset.range N, Real.exp (l v)) : ℝ) : EReal) := by
  have hs : ∑ j : Fin N, Ideal.exp ((l j.val : EReal) - (μ : EReal)) = (part l N μ N : EReal) := by
    unfold part
    rw [Finset.sum_range, ← coe_sum]
    refine Finset.sum_congr rfl fun j _ => ?_
    rw [← exp_col]
    unfold col
    rw [if_pos j.isLt]
  rw [hs, Ideal.log_coe, if_neg (not_le.mpr (part_pos l N hN μ)), ← EReal.coe_sub, ← EReal.coe_sub, ← Online.lse l N hN μ]
  congr 1
  ring

end Cert.Proof.Online

end
-- ==== Proof.Spec.lean ====
/-
  The function of the arguments that the program computes, on the extended reals: the mean of fifty rows of a table, a
  hidden layer with a rectifier, the logits. When every argument is a real number, so is every one of these.
-/
module

public import Idealize.ShloMosaic.PureOps.Ideal
public import Idealize.ShloMosaic.Lib.Pointwise
public import proofs.«01_k».proof.Proof.Online

@[expose] public section

noncomputable section

namespace Cert.Proof.Spec

open Idealize.ShloMosaic

/-- The mean of the fifty rows that a row of tokens names. -/
def mean (ids : Fin 1024 → Fin 50 → Fin 100000) (x : Fin 100000 → Fin 128 → EReal) (r : Fin 1024) (e : Fin 128) : EReal :=
  (∑ j : Fin 50, x (ids r j) e) * ((50⁻¹ : ℝ) : EReal)

/-- The hidden layer. -/
def hid (p : Fin 1024 → Fin 128 → EReal) (w : Fin 128 → Fin 128 → EReal) (b : Fin 128 → EReal) (r : Fin 1024) (k : Fin 128) : EReal :=
  max ((∑ e : Fin 128, p r e * w k e) + b k) 0

/-- The logits. -/
def logit (h : Fin 1024 → Fin 128 → EReal) (w : Fin 100000 → Fin 128 → EReal) (b : Fin 100000 → EReal) (r : Fin 1024) (v : Fin 100000) : EReal :=
  (∑ k : Fin 128, h r k * w v k) + b v

/-- The same of the six arguments as arrays. -/
def logits (a0 : (⟨2, ![1024, 50]⟩ : Shape).Idx → BitVec 32) (a1 : (⟨2, ![100000, 128]⟩ : Shape).Idx → EReal) (a2 : (⟨2, ![128, 128]⟩ : Shape).Idx → EReal)
    (a3 : (⟨1, ![128]⟩ : Shape).Idx → EReal) (a4 : (⟨2, ![100000, 128]⟩ : Shape).Idx → EReal) (a5 : (⟨1, ![100000]⟩ : Shape).Idx → EReal) :
    Fin 1024 → Fin 100000 → EReal :=
  logit (hid (mean (fun r j => Fin.ofNat 100000 (a0 (ix2 r j)).toNat) fun v e => a1 (ix2 v e)) (fun k e => a2 (ix2 k e)) fun k => a3 (ix1 k))
    (fun v k => a4 (ix2 v k)) fun v => a5 (ix1 v)

/-- The logarithm of a row's sum of exponentials. -/
def lse (l : ℕ → ℝ) : ℝ := Real.log (∑ v ∈ Finset.range 100000, Real.exp (l v))

/-! ### Real numbers -/

def IsReal (x : EReal) : Prop := ∃ a : ℝ, x = (a : EReal)

theorem isReal_of_ne {x : EReal} (h : x ≠ ⊤ ∧ x ≠ ⊥) : IsReal x :=
  ⟨x.toReal, (EReal.coe_toReal h.1 h.2).symm⟩

theorem isReal_coe (a : ℝ) : IsReal (a : EReal) := ⟨a, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) {f : ι → EReal} (h : ∀ j, IsReal (f j)) : IsReal (∑ j ∈ s, f j) := by
  choose g hg using h
  exact ⟨∑ j ∈ s, g j, by rw [← Online.coe_sum]; exact Finset.sum_congr rfl fun j _ => hg j⟩

theorem mean_real {ids : Fin 1024 → Fin 50 → Fin 100000} {x : Fin 100000 → Fin 128 → EReal} (hx : ∀ v e, IsReal (x v e)) (r : Fin 1024) (e : Fin 128) :
    IsReal (mean ids x r e) :=
  (IsReal.sum _ fun _ => hx _ _).mul (isReal_coe _)

theorem hid_real {p : Fin 1024 → Fin 128 → EReal} {w : Fin 128 → Fin 128 → EReal} {b : Fin 128 → EReal} (hp : ∀ r e, IsReal (p r e))
    (hw : ∀ k e, IsReal (w k e)) (hb : ∀ k, IsReal (b k)) (r : Fin 1024) (k : Fin 128) : IsReal (hid p w b r k) :=
  ((IsReal.sum _ fun _ => (hp _ _).mul (hw _ _)).add (hb k)).max (isReal_coe 0)

theorem logit_real {h : Fin 1024 → Fin 128 → EReal} {w : Fin 100000 → Fin 128 → EReal} {b : Fin 100000 → EReal} (hh : ∀ r k, IsReal (h r k))
    (hw : ∀ v k, IsReal (w v k)) (hb : ∀ v, IsReal (b v)) (r : Fin 1024) (v : Fin 100000) : IsReal (logit h w b r v) :=
  (IsReal.sum _ fun _ => (hh _ _).mul (hw _ _)).add (hb v)

theorem logits_real {a0 : (⟨2, ![1024, 50]⟩ : Shape).Idx → BitVec 32} {a1 : (⟨2, ![100000, 128]⟩ : Shape).Idx → EReal} {a2 : (⟨2, ![128, 128]⟩ : Shape).Idx → EReal}
    {a3 : (⟨1, ![128]⟩ : Shape).Idx → EReal} {a4 : (⟨2, ![100000, 128]⟩ : Shape).Idx → EReal} {a5 : (⟨1, ![100000]⟩ : Shape).Idx → EReal}
    (h1 : ∀ j, IsReal (a1 j)) (h2 : ∀ j, IsReal (a2 j)) (h3 : ∀ j, IsReal (a3 j)) (h4 : ∀ j, IsReal (a4 j)) (h5 : ∀ j, IsReal (a5 j))
    (r : Fin 1024) (v : Fin 100000) : IsReal (logits a0 a1 a2 a3 a4 a5 r v) :=
  logit_real (hid_real (mean_real fun _ _ => h1 _) (fun _ _ => h2 _) fun _ => h3 _) (fun _ _ => h4 _) (fun _ => h5 _) r v

/-- Real logits as functions of the natural numbers. -/
theorem exists_real {f : Fin 1024 → Fin 100000 → EReal} (hf : ∀ r v, IsReal (f r v)) :
    ∃ l : Fin 1024 → ℕ → ℝ, ∀ r (v : Fin 100000), f r v = (l r v.val : EReal) := by
  choose g hg using hf
  exact ⟨fun r v => g r (Fin.ofNat 100000 v), fun r v => by
    show f r v = (g r (Fin.ofNat 100000 v.val) : EReal)
    rw [hg, show Fin.ofNat 100000 v.val = v from Fin.ext (Nat.mod_eq_of_lt v.isLt)]⟩

end Cert.Proof.Spec

end
-- ==== Proof.Logits.lean ====
/-
  The second kernel's results on the extended reals: its first result is the logits, its second the logarithm of each
  row's sum of exponentials, when the logits are real numbers.
-/
module

public import proofs.«01_k».proof.Proof.Blocks
public import proofs.«01_k».proof.Proof.Pay
public import proofs.«01_k».proof.Proof.Spec

@[expose] public section

noncomputable section

namespace Cert.Proof.Pool

open Cert.KernelIdeal Cert.KernelIdeal.Gen
open Idealize.ShloMosaic
open Idealize.ShloMosaic.Pipeline (RDat Window)

variable (V : Val0 Ideal) (c : Dev nD)

/-- The hidden layer and the logits of the arrays the region is entered with. -/
def hidV : Fin 1024 → Fin 128 → EReal :=
  Spec.hid (fun r e => V c main_v0 (ix2 r e)) (fun k e => V c main_arg2 (ix2 k e)) fun k => V c main_v1 (ix2 0 k)
def logV : Fin 1024 → Fin 100000 → EReal :=
  Spec.logit (hidV V c) (fun v k => V c main_arg4 (ix2 v k)) fun v => V c main_v2 (ix2 0 v)

theorem pay5_hid (r : Fin 1024) (k : Fin 128) : k1_pay5 (F := Ideal) (B0 V c) (B1 V c) (B2 V c) (ix2 r k) = hidV V c r k := by
  rw [pay5_at, B0_eq, B1_eq, B2_eq]
  rfl

variable {l : Fin 1024 → ℕ → ℝ} (hl : ∀ r (v : Fin 100000), logV V c r v = (l r v.val : EReal))
include hl

/-- A column's logit as a step computes it: the logit, or the mask past the end. -/
theorem pay8_col {t : Fin grid1.N} {h : FVec Ideal S1024x128 .bf16} (hh : ∀ r k, h (ix2 r k) = hidV V c r k)
    {X3 : S2048x128.Idx → Elt Ideal .f32} {X4 : S1x2048.Idx → Elt Ideal .f32} (h3 : W3 V c t X3) (h4 : W4 V c t X4) (r : Fin 1024) (j : Fin 2048) :
    k1_pay8 (F := Ideal) (grid1.coords t) X3 h X4 (ix2 r j) = Online.col (l r) 100000 (2048 * t.val + j.val) := by
  rw [pay8_at, coords_val]
  unfold Online.col
  split
  · rename_i hj
    rw [← hl r ⟨_, hj⟩, W4_at V c h4 j hj]
    unfold logV Spec.logit
    congr 1
    exact Finset.sum_congr rfl fun k _ => by rw [hh, W3_at V c h3 j k hj]
  · rfl

/-- What the scratch buffers hold after at least one step. -/
def Good (n : ℕ) (h : FVec Ideal S1024x128 .bf16) (mx sm : FVec Ideal S1024x1 .f32) : Prop :=
  (∀ r k, h (ix2 r k) = hidV V c r k) ∧ ∀ r, Online.State (l r) 100000 (2048 * n) (mx (ix2 r 0)) (sm (ix2 r 0))

omit hl in
/-- At the start of a step the hidden layer is set, and the running pair is what the columns before give. -/
theorem start {t : Fin grid1.N} {h : FVec Ideal S1024x128 .bf16} {mx sm : FVec Ideal S1024x1 .f32}
    (hg : t.val ≠ 0 → Good V c (l := l) t.val h mx sm) :
    Good V c (l := l) t.val (h₁ (F := Ideal) (grid1.coords t) (B0 V c) (B1 V c) (B2 V c) h) (mx₁ (F := Ideal) (grid1.coords t) mx)
      (sm₁ (F := Ideal) (grid1.coords t) sm) := by
  unfold h₁ mx₁ sm₁
  rw [coords_val]
  by_cases ht : t.val = 0
  · rw [if_pos ht, if_pos ht, if_pos ht]
    exact ⟨fun r k => pay5_hid V c r k, fun r => .inl ⟨by omega, pay6_at r, pay7_at r⟩⟩
  · rw [if_neg ht, if_neg ht, if_neg ht]
    exact hg ht

theorem reach_good {n : ℕ} {h : S1024x128.Idx → Elt Ideal .bf16} {mx sm : S1024x1.Idx → Elt Ideal .f32} (hr : Reach V c n h mx sm) :
    n ≠ 0 → Good V c (l := l) n h mx sm := by
  induction hr with
  | zero => exact fun h => absurd rfl h
  | succ t hr h3 h4 ih =>
    intro _
    obtain ⟨hh, hs⟩ := start V c ih
    refine ⟨hh, fun r => ?_⟩
    have ht : t.val < 49 := t.isLt
    have hstep := Online.State.step (l r) 100000 (b := 2048) (by decide) (by omega) (hs r) rfl
    unfold mx₂ sm₂
    rw [pay1_eq, pay2_eq, pay10_at, pay9_at]
    simp only [pay8_col V c hl hh h3 h4]
    exact hstep

/-- What a step leaves in the first result's buffer. -/
theorem out5_at {t : Fin grid1.N} {X : S1024x2048.Idx → Elt Ideal .bf16} (h : Out5 V c t X) (r : Fin 1024) (j : Fin 2048)
    (hj : 2048 * t.val + j.val < 100000) : X (ix2 r j) = logV V c r ⟨2048 * t.val + j.val, hj⟩ := by
  obtain ⟨h, mx, sm, X3, X4, hr, h3, h4, rfl⟩ := h
  rw [pay3_eq, pay8_col V c hl (start V c (reach_good V c hl hr)).1 h3 h4, hl]
  exact if_pos hj

/-- What the last step leaves in the second's. -/
theorem out6_at {t : Fin grid1.N} (ht : t.val = 48) {Y X : S1024x1.Idx → Elt Ideal .f32} (h : Out6 V c t Y X) (r : Fin 1024) :
    X (ix2 r 0) = (Spec.lse (l r) : EReal) := by
  obtain ⟨h, mx, sm, hr, rfl⟩ := h
  unfold lse₁
  rw [coords_val, if_pos ht, pay4_at]
  exact ((reach_good V c hl hr (Nat.succ_ne_zero _)).2 r).lse _ _ (by decide) (by omega)

end Cert.Proof.Pool

end
-- ==== Proof.Value.lean ====
/-
  The program's result on the extended reals, as a function of its arguments: each logit less the logarithm of its row's
  sum of exponentials.
-/
module

public import proofs.«01_k».proof.Proof.Main
public import proofs.«01_k».proof.Proof.Logits

@[expose] public section

noncomputable section

namespace Cert.Proof.Pool

open Cert.KernelIdeal Cert.KernelIdeal.Gen
open Idealize.ShloMosaic
open Idealize.ShloMosaic.Pipeline (RDat Window Dat)

instance (e : EltTy) : Nonempty (Elt Ideal e) := by cases e <;> exact ⟨by first | exact (0 : BitVec _) | exact (0 : EReal)⟩

/-! ## The pooled rows -/

theorem colSum_eq (f : S50x128.Idx → Ideal .f32) (c n : ℕ) : colSum (F := Ideal) f c n = ∑ j ∈ Finset.range (n + 1), (cell f j c : EReal) := by
  induction n with
  | zero => rw [Finset.sum_range_one]; rfl
  | succ n ih => rw [Finset.sum_range_succ, ← ih]; rfl

theorem invS_eq : (invS (F := Ideal) : EReal) = ((50⁻¹ : ℝ) : EReal) :=
  IdealRules.named_const.ideal_named_scalar _ _ _ _ rfl

theorem pooled_at (ids : S1024x50.Idx → BitVec 32) (x : S100000x128.Idx → Ideal .f32) (r : Fin 1024) (e : Fin 128) :
    pooled (F := Ideal) ids x (ix2 r e)
      = Spec.mean (fun r j => Fin.ofNat 100000 (ids (ix2 r j)).toNat) (fun v e => x (ix2 v e)) r e := by
  show colSum (F := Ideal) _ e.val 49 * invS (F := Ideal) = _
  rw [colSum_eq, invS_eq, Finset.sum_range]
  unfold Spec.mean
  congr 1
  refine Finset.sum_congr rfl fun j _ => ?_
  simp only [ix2_eq_valueIdx]
  have hj : Fin.ofNat 50 j.val = j := Fin.ext (Nat.mod_eq_of_lt j.isLt)
  have he : Fin.ofNat 128 e.val = e := Fin.ext (Nat.mod_eq_of_lt e.isLt)
  show x (ValueIdx.ix2 (Fin.ofNat 100000 (ids (ValueIdx.ix2 r (Fin.ofNat 50 (Fin.ofNat 50 j.val).val))).toNat) (Fin.ofNat 128 e.val)) = _
  rw [hj, hj, he]

/-! ## The region's two results -/

section Region

variable (V : Val0 Ideal) (c : Dev nD) (b : ℕ)
variable {l : Fin 1024 → ℕ → ℝ} (hl : ∀ r (v : Fin 100000), logV V c r v = (l r v.val : EReal))
include hl

theorem arr5_eq {G5 : B5 Ideal} (hG : (rdat V c b).ArrAt 5 cfg1.N G5) : G5 = fun i => logV V c (i 0) (i 1) := by
  obtain ⟨X, hX, hA⟩ := hG.exists_exact
  have e := hA (Function.update (fun _ _ _ => Classical.arbitrary _) 5 X) fun u _ _ => by rw [Function.update_self]
  rw [e]
  refine Dat.arrAt_eq_of_covers _ 5 _ (by decide +kernel) fun t hf y => ?_
  obtain ⟨Y, -, ho⟩ := hX t t.isLt hf
  have hy : ∀ a, (y a).val < win1_5.xsize (grid1.coords t) a := fun a => (y a).isLt
  rw [xsize5] at hy
  have h0 : (y 0).val < 1024 := hy 0
  have h1 : (y 1).val < min 2048 (100000 - 2048 * t.val) := hy 1
  have hx : win1_5.xinj (grid1.coords t) y = ix2 ⟨(y 0).val, h0⟩ ⟨(y 1).val, by omega⟩ := by
    funext a
    match a with
    | 0 => rfl
    | 1 => rfl
  have hval := out5_at V c hl ho ⟨(y 0).val, h0⟩ ⟨(y 1).val, by omega⟩ (by show 2048 * t.val + (y 1).val < 100000; omega)
  rw [RDat.withAfter_after, Function.update_self]
  refine (congrArg (X t) hx).trans (hval.trans ?_)
  show logV V c _ _ = logV V c _ _
  congr 1
  · refine Fin.ext ?_
    blk_simp [index5]
  · refine Fin.ext ?_
    blk_simp [index5]
    exact congrArg (· + (y 1).val) (Nat.mul_comm _ _)

theorem arr6_at {G6 : B6 Ideal} (hG : (rdat V c b).ArrAt 6 cfg1.N G6) (r : Fin 1024) : G6 (ix2 r 0) = (Spec.lse (l r) : EReal) := by
  obtain ⟨X, ⟨Y, -, ho⟩, hA⟩ := hG.emb_eq_of_wholeAt (t₀ := ⟨48, by decide⟩) (by decide +kernel)
  refine (hA (ix2 r 0)).trans (Eq.trans ?_ (out6_at V c hl rfl ho r))
  show X _ = X _
  congr 1

end Region

/-! ## The whole program -/

variable (m : (ℓ : Loc nD τ sig) → Buf (Elt Ideal) ℓ) (d : Dev nD)

/-- The logits of device `d`'s arguments. -/
abbrev logM : Fin 1024 → Fin 100000 → EReal :=
  Spec.logits (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) (m ((d.tc : Thread nD τ).loc main_arg5))

theorem Vr_v0 : Vr m d main_v0 = pooledAt (F := Ideal) m d := by
  show opR2.result (opR1.result (V₁ m d)) (Proc.devRef .tc main_v0) = _
  rw [StableHlo.reshape_result_ne _ _ _ _ _ _ _ (by decide), StableHlo.reshape_result_ne _ _ _ _ _ _ _ (by decide)]
  exact V₁_v0 m d

theorem Vr_v1 (k : Fin 128) : Vr m d main_v1 (ix2 0 k) = m ((d.tc : Thread nD τ).loc main_arg3) (ix1 k) := by
  show opR2.result (opR1.result (V₁ m d)) (Proc.devRef .tc main_v1) (ix2 0 k) = _
  rw [StableHlo.reshape_result_ne _ _ _ _ _ _ _ (by decide), StableHlo.reshape_result, V₁_ne m d (by decide), ix2_eq_valueIdx, ix1_eq_valueIdx]
  exact ValueIdx.shapeCast_a_1a_apply _ shapeCasts_S128_S1x128 0 k

theorem Vr_v2 (v : Fin 100000) : Vr m d main_v2 (ix2 0 v) = m ((d.tc : Thread nD τ).loc main_arg5) (ix1 v) := by
  show opR2.result (opR1.result (V₁ m d)) (Proc.devRef .tc main_v2) (ix2 0 v) = _
  rw [StableHlo.reshape_result, StableHlo.reshape_result_ne _ _ _ _ _ _ _ (by decide), V₁_ne m d (by decide), ix2_eq_valueIdx, ix1_eq_valueIdx]
  exact ValueIdx.shapeCast_a_1a_apply _ shapeCasts_S100000_S1x100000 0 v

theorem logV_eq : logV (Vr m) d = logM m d := by
  have e2 : Vr m d main_arg2 = m ((d.tc : Thread nD τ).loc main_arg2) := V₂_kept m d (by decide)
  have e4 : Vr m d main_arg4 = m ((d.tc : Thread nD τ).loc main_arg4) := V₂_kept m d (by decide)
  unfold logV hidV logM Spec.logits
  rw [Vr_v0, e2, e4]
  simp only [Vr_v1, Vr_v2, pooled_at]

/-- The result, at row `r` and column `v`. -/
theorem result_at {l : Fin 1024 → ℕ → ℝ} (hl : ∀ r (v : Fin 100000), logM m d r v = (l r v.val : EReal)) {G5 : B5 Ideal} {G6 : B6 Ideal}
    (h : Ends m d G5 G6) (r : Fin 1024) (v : Fin 100000) :
    Vf m d G5 G6 (Proc.devRef .tc main_v6) (ix2 r v) = ((l r v.val - Spec.lse (l r) : ℝ) : EReal) := by
  have hl' : ∀ r (v : Fin 100000), logV (Vr m) d r v = (l r v.val : EReal) := by rw [logV_eq]; exact hl
  have h5 := arr5_eq (Vr m) d bnd hl' h.1
  have h6 := arr6_at (Vr m) d bnd hl' h.2 r
  have e5 : V₃ m d G5 G6 (Proc.devRef .tc main_v3_0) = G5 := by
    unfold V₃
    rw [Function.update_of_ne (by decide), Function.update_self]
  have e6 : V₃ m d G5 G6 (Proc.devRef .tc main_v3_1) = G6 := Function.update_self _ _ _
  have e4 : opB.result (opE.result (V₃ m d G5 G6)) (Proc.devRef .tc main_v4) = (extf .f32 G5 bitsLt_bf16_f32 : FVec Ideal S1024x100000 .f32) := by
    rw [StableHlo.unary_result_ne main_v3_1 main_v5 _ _ _ _ (by decide), StableHlo.unary_result main_v3_0 main_v4, e5]
  have e5' : opB.result (opE.result (V₃ m d G5 G6)) (Proc.devRef .tc main_v5) = broadcastInDim S1024x100000 ![0, 1] bcast_S1024x1_S1024x100000_0_1 G6 := by
    rw [StableHlo.unary_result main_v3_1 main_v5, StableHlo.unary_result_ne main_v3_0 main_v4 _ _ _ _ (by decide), e6]
  unfold Vf
  rw [StableHlo.binary_result, e4, e5', h5]
  have eb : broadcastInDim S1024x100000 ![0, 1] bcast_S1024x1_S1024x100000_0_1 G6 (ix2 r v) = G6 (ix2 r 0) := by
    unfold broadcastInDim
    congr 1
    funext a
    match a with
    | 0 => rfl
    | 1 => rfl
  refine (congrArg (fun z : EReal => logV (Vr m) d r v - z) (eb.trans h6)).trans ?_
  rw [hl', ← EReal.coe_sub]

end Cert.Proof.Pool

end
-- ==== Proof.Ref.lean ====
/-
  The reference's result on the extended reals, index by index. Tokens inside the table make its index arithmetic and its
  mask vanish; what is left is the logits of the specification and a softmax over each row.
-/
module

public import proofs.«01_k».proof.Proof.Gen.ReferenceIdeal.Run
public import proofs.«01_k».proof.Proof.Spec
public import Idealize.ShloMosaic.Lib.WordCmp
public import Idealize.ShloMosaic.Lib.ReduceAll

@[expose] public section

noncomputable section

namespace Cert.Proof.Ref

open Cert.ReferenceIdeal Cert.ReferenceIdeal.Gen
open Idealize.ShloMosaic

/-! ## The pieces of the result's term -/

/-- The tokens, a negative one counted from the table's end. -/
def words (a0 : S1024x50.Idx → BitVec 32) : S1024x50.Idx → BitVec 32 :=
  select (cmpi .slt a0 (broadcastInDim S1024x50 ![] bcast_S_S1024x50 (constantI S_ 32 0#32)))
    (addi a0 (broadcastInDim S1024x50 ![] bcast_S_S1024x50 (constantI S_ 32 100000#32))) a0

/-- The tokens as start indices. -/
def starts (w : S1024x50.Idx → BitVec 32) : S1024x50x1.Idx → BitVec 32 :=
  broadcastInDim S1024x50x1 ![0, 1] bcast_S1024x50_S1024x50x1_0_1 w

/-- Where a token lies inside the table. -/
def inside (w : S1024x50.Idx → BitVec 32) : S1024x50x128.Idx → BitVec 1 :=
  broadcastInDim S1024x50x128 ![0, 1] bcast_S1024x50_S1024x50x128_0_1
    (Host.reduce IntOp.andi
      (andi (cmpi .sge (starts w) (broadcastInDim S1024x50x1 ![] bcast_S_S1024x50x1 (constantI S_ 32 0#32)))
        (cmpi .sle (starts w) (broadcastInDim S1024x50x1 ![0, 1, 2] bcast_S1x1x1_S1024x50x1_0_1_2 (broadcastInDim S1x1x1 ![2] bcast_S1_S1x1x1_2 (constantI S1 32 99999#32)))))
      (constantI S_ 1 1#1) reducesTo_S1024x50x1_S1024x50_d2 h_S_)

/-- The rows the tokens name. -/
def rows (w : S1024x50.Idx → BitVec 32) (a1 : FVec Ideal S100000x128 .f32) : FVec Ideal S1024x50x128 .f32 :=
  select (inside w) (Host.gather gather_S100000x128_S1024x50x1_S1024x50x128_2_0_n_n_0_2_1128 a1 (starts w))
    (broadcastInDim S1024x50x128 ![] bcast_S_S1024x50x128 (constant S_ .f32 0x7FC00000#32))

/-- The mean of each fifty. -/
def meanA (x : FVec Ideal S1024x50x128 .f32) : FVec Ideal S1024x128 .f32 :=
  Host.divf (Host.reduceAdd x (constant S_ .f32 0x00000000#32) reducesTo_S1024x50x128_S1024x128_d1 h_S_)
    (broadcastInDim S1024x128 ![] bcast_S_S1024x128 (constant S_ .f32 0x42480000#32))

/-- The hidden layer. -/
def hidA (p : FVec Ideal S1024x128 .f32) (a2 : FVec Ideal S128x128 .f32) (a3 : FVec Ideal S128 .f32) : FVec Ideal S1024x128 .f32 :=
  maximumf
    (addf (Host.dotGeneral dot_S1024x128_S128x128_S1024x128_1_0_0_1_n_n none p (transpose S128x128 [1, 0] a2 transposes_S128x128_S128x128_1_0))
      (broadcastInDim S1024x128 ![0, 1] bcast_S1x128_S1024x128_0_1 (broadcastInDim S1x128 ![1] bcast_S128_S1x128_1 a3)))
    (broadcastInDim S1024x128 ![] bcast_S_S1024x128 (constant S_ .f32 0x00000000#32))

/-- The logits. -/
def logA (h : FVec Ideal S1024x128 .f32) (a4 : FVec Ideal S100000x128 .f32) (a5 : FVec Ideal S100000 .f32) : FVec Ideal S1024x100000 .f32 :=
  addf (Host.dotGeneral dot_S1024x128_S128x100000_S1024x100000_1_0_0_1_n_n none h (transpose S128x100000 [1, 0] a4 transposes_S100000x128_S128x100000_1_0))
    (broadcastInDim S1024x100000 ![0, 1] bcast_S1x100000_S1024x100000_0_1 (broadcastInDim S1x100000 ![1] bcast_S100000_S1x100000_1 a5))

/-- Each row's maximum. -/
def topA (L : FVec Ideal S1024x100000 .f32) : FVec Ideal S1024 .f32 :=
  maximumf (broadcastInDim S1024 ![] bcast_S_S1024 (constant S_ .f32 0xFF800000#32))
    (Host.reduce FloatOps.maximumf L (constant S_ .f32 0xFF800000#32) reducesTo_S1024x100000_S1024_d1 h_S_)

/-- The logits less their row's maximum. -/
def shiftA (L : FVec Ideal S1024x100000 .f32) : FVec Ideal S1024x100000 .f32 :=
  subf L (broadcastInDim S1024x100000 ![0, 1] bcast_S1024x1_S1024x100000_0_1 (broadcastInDim S1024x1 ![0] bcast_S1024_S1024x1_0 (topA L)))

/-- The logarithm of each row's softmax. -/
def softA (L : FVec Ideal S1024x100000 .f32) : FVec Ideal S1024x100000 .f32 :=
  subf (shiftA L)
    (broadcastInDim S1024x100000 ![0, 1] bcast_S1024x1_S1024x100000_0_1
      (Host.log (broadcastInDim S1024x1 ![0] bcast_S1024_S1024x1_0
        (Host.reduceAdd (Host.exp (shiftA L)) (constant S_ .f32 0x00000000#32) reducesTo_S1024x100000_S1024_d1 h_S_))))

/-- The reference's result is these in turn. -/
theorem res_eq (m : (ℓ : Loc nD τ sig) → Buf (Elt Ideal) ℓ) (c : Dev nD) :
    Cert.ReferenceIdeal.Value.res_main_v15 m c =
      softA (logA (hidA (meanA (rows (words (m ((c.tc : Thread nD τ).loc main_arg0))) (m ((c.tc : Thread nD τ).loc main_arg1))))
        (m ((c.tc : Thread nD τ).loc main_arg2)) (m ((c.tc : Thread nD τ).loc main_arg3))) (m ((c.tc : Thread nD τ).loc main_arg4)) (m ((c.tc : Thread nD τ).loc main_arg5))) := by
  unfold Cert.ReferenceIdeal.Value.res_main_v15
  rfl

/-! ## The rows -/

/-- A selection where the condition holds. -/
theorem select_one {s : Shape} {α : Type} (c : s.Idx → BitVec 1) (x y : s.Idx → α) (i : s.Idx) (h : c i = 1#1) : select c x y i = x i :=
  if_pos h

section Tokens
variable {a0 : S1024x50.Idx → BitVec 32} (h0 : ∀ j, (a0 j).toNat < 100000)
include h0

/-- A token inside the table is its own index. -/
theorem words_eq : words a0 = a0 := by
  funext j
  show (if IntOp.cmpi .slt (a0 j) 0#32 = 1#1 then a0 j + 100000#32 else a0 j) = a0 j
  refine if_neg fun h => ?_
  rw [WordCmp.cmpi_slt_zero, WordCmp.ofBool_eq_one_iff, decide_eq_true_iff] at h
  have := h0 j
  omega

theorem starts_at (i : S1024x50x1.Idx) : starts a0 i = a0 (ix2 (i 0) (i 1)) := by
  unfold starts
  pointwise []

theorem inside_at (i : S1024x50x128.Idx) : inside a0 i = 1#1 := by
  refine Host.reduce_andi_one _ _ _ _ _ rfl fun k => ?_
  have hk := h0 (ix2 (k 0) (k 1))
  show IntOp.andi (IntOp.cmpi .sge (starts a0 k) 0#32) (IntOp.cmpi .sle (starts a0 k) 99999#32) = 1#1
  rw [starts_at h0, WordCmp.cmpi_sge_zero, WordCmp.cmpi_sle_of_lt (by omega) (by decide), decide_eq_true (by omega), decide_eq_true]
  · rfl
  · show _ ≤ 99999
    omega

/-- The gathered row of a token. -/
theorem gather_at (a1 : FVec Ideal S100000x128 .f32) (r : Fin 1024) (j : Fin 50) (e : Fin 128) :
    Host.gather gather_S100000x128_S1024x50x1_S1024x50x128_2_0_n_n_0_2_1128 a1 (starts a0) (ix3 r j e)
      = a1 (ix2 (Fin.ofNat 100000 (a0 (ix2 r j)).toNat) e) := by
  unfold Host.gather
  congr 1
  funext a
  refine Fin.ext ?_
  match a with
  | 0 =>
    have hw := h0 (ix2 r j)
    show GatherDims.start _ _ _ 0 + GatherDims.batchCoord _ _ 0 + GatherDims.offCoord _ _ 0 = _
    rw [GatherDims.batchCoord_eq_zero _ _ _ List.not_mem_nil,
      GatherDims.offCoord_eq_zero _ _ _ fun h => ((GatherDims.mem_sKept _ _).mp h).1 (List.mem_singleton.mpr rfl), GatherDims.start,
      dif_pos (show (0 : Fin 2) ∈ gather_S100000x128_S1024x50x1_S1024x50x128_2_0_n_n_0_2_1128.startIndexMap from List.mem_singleton.mpr rfl),
      starts_at h0]
    show min (a0 (ix2 r j)).toInt.toNat (100000 - 1) + 0 + 0 = (a0 (ix2 r j)).toNat % 100000
    rw [WordCmp.toInt_eq_toNat_of_lt_half (by omega), Nat.mod_eq_of_lt hw, Int.toNat_natCast]
    omega
  | 1 =>
    show GatherDims.start _ _ _ 1 + GatherDims.batchCoord _ _ 1 + GatherDims.offCoord _ _ 1 = _
    rw [GatherDims.batchCoord_eq_zero _ _ _ List.not_mem_nil, GatherDims.start, dif_neg (by decide)]
    show 0 + 0 + e.val = e.val
    omega

theorem rows_at (a1 : FVec Ideal S100000x128 .f32) (r : Fin 1024) (j : Fin 50) (e : Fin 128) :
    rows a0 a1 (ix3 r j e) = a1 (ix2 (Fin.ofNat 100000 (a0 (ix2 r j)).toNat) e) := by
  unfold rows
  rw [select_one _ _ _ _ (inside_at h0 _), gather_at h0]

end Tokens

/-! ## The logits -/

theorem fifty : Ideal.ofBits .f32 0x42480000#32 = ((50 : ℝ) : EReal) := by
  simp [Ideal.ofBits, Ideal.ieee]
  rw [← EReal.coe_mul]
  norm_num

theorem neg_inf : Ideal.ofBits .f32 0xFF800000#32 = (⊥ : EReal) := by
  simp [Ideal.ofBits, Ideal.ieee]

theorem mean_at (x : FVec Ideal S1024x50x128 .f32) (r : Fin 1024) (e : Fin 128) :
    meanA x (ix2 r e) = (∑ j : Fin 50, (x (ix3 r j e) : EReal)) * ((50⁻¹ : ℝ) : EReal) := by
  unfold meanA
  pointwise []
  rw [fifty, Ideal.div_coe (by norm_num), one_div]

theorem hid_at (p : FVec Ideal S1024x128 .f32) (a2 : FVec Ideal S128x128 .f32) (a3 : FVec Ideal S128 .f32) (r : Fin 1024) (k : Fin 128) :
    hidA p a2 a3 (ix2 r k) = Spec.hid (fun r e => p (ix2 r e)) (fun k e => a2 (ix2 k e)) (fun k => a3 (ix1 k)) r k := by
  unfold hidA Spec.hid
  pointwise []

theorem log_at (h : FVec Ideal S1024x128 .f32) (a4 : FVec Ideal S100000x128 .f32) (a5 : FVec Ideal S100000 .f32) (r : Fin 1024) (v : Fin 100000) :
    logA h a4 a5 (ix2 r v) = Spec.logit (fun r k => h (ix2 r k)) (fun v k => a4 (ix2 v k)) (fun v => a5 (ix1 v)) r v := by
  unfold logA Spec.logit
  pointwise []

theorem logits_at {a0 : S1024x50.Idx → BitVec 32} (h0 : ∀ j, (a0 j).toNat < 100000) (a1 : FVec Ideal S100000x128 .f32) (a2 : FVec Ideal S128x128 .f32)
    (a3 : FVec Ideal S128 .f32) (a4 : FVec Ideal S100000x128 .f32) (a5 : FVec Ideal S100000 .f32) (r : Fin 1024) (v : Fin 100000) :
    logA (hidA (meanA (rows (words a0) a1)) a2 a3) a4 a5 (ix2 r v) = Spec.logits a0 a1 a2 a3 a4 a5 r v := by
  rw [log_at, words_eq h0]
  unfold Spec.logits
  congr 1
  funext r k
  rw [hid_at]
  congr 1
  funext r e
  rw [mean_at]
  unfold Spec.mean
  simp only [rows_at h0]

/-! ## The softmax -/

/-- The maximum of real numbers, at least one of them, is real. -/
theorem fold_real {N : ℕ} (hN : 0 < N) (f : Fin N → ℝ) : ∃ μ : ℝ, (Finset.univ.fold max ⊥ fun v => (f v : EReal)) = (μ : EReal) := by
  refine Spec.isReal_of_ne (And.intro (ne_of_lt (Online.fold_max_lt _ _ fun v _ => EReal.coe_lt_top _)) (ne_of_gt ?_))
  exact lt_of_lt_of_le (EReal.bot_lt_coe (f ⟨0, hN⟩)) (Online.le_fold_max Finset.univ (fun v => (f v : EReal)) (Finset.mem_univ (⟨0, hN⟩ : Fin N)))

/-- The maximum of a row of real numbers, folded from the lower infinity and compared with it once more, is real. -/
theorem rowTop {n N : ℕ} (hN : 0 < N) (L : FVec Ideal ⟨2, ![n, N]⟩ .f32) {u : Shape} (c : FVec Ideal u .f32) (h : (⟨2, ![n, N]⟩ : Shape).ReducesTo [1] ⟨1, ![n]⟩)
    (hu : 0 < u.numel) (hc : c (Shape.Idx.first hu) = (⊥ : EReal)) (r : Fin n) (b : FVec Ideal ⟨1, ![n]⟩ .f32) (hb : b (ix1 r) = (⊥ : EReal))
    (f : Fin N → ℝ) (hf : ∀ v, L (ix2 r v) = (f v : EReal)) :
    ∃ μ : ℝ, maximumf b (Host.reduce FloatOps.maximumf L c h hu) (ix1 r) = (μ : EReal) := by
  obtain ⟨μ, hμ⟩ := fold_real hN f
  have e : Host.reduce FloatOps.maximumf L c h hu (ix1 r) = (μ : EReal) := by
    refine Eq.trans ?_ hμ
    simp only [pointwise, hf, hc]
  exact ⟨μ, (congrArg₂ max hb e).trans (max_eq_right bot_le)⟩

section Softmax
variable {L : FVec Ideal S1024x100000 .f32} {l : Fin 1024 → ℕ → ℝ} (hl : ∀ r (v : Fin 100000), L (ix2 r v) = (l r v.val : EReal))
include hl

theorem top_at (r : Fin 1024) : ∃ μ : ℝ, topA L (ix1 r) = (μ : EReal) :=
  rowTop (by decide) L (constant S_ .f32 0xFF800000#32) reducesTo_S1024x100000_S1024_d1 h_S_ neg_inf r
    (broadcastInDim S1024 ![] bcast_S_S1024 (constant S_ .f32 0xFF800000#32)) neg_inf (fun v => l r v.val) (hl r)

theorem soft_at (r : Fin 1024) (v : Fin 100000) : softA L (ix2 r v) = ((l r v.val - Spec.lse (l r) : ℝ) : EReal) := by
  obtain ⟨μ, hμ⟩ := top_at hl r
  have hs : ∀ v : Fin 100000, shiftA L (ix2 r v) = (l r v.val : EReal) - (μ : EReal) := fun v => by
    unfold shiftA
    pointwise []
    rw [hl, hμ]
  refine Eq.trans ?_ (Online.row (l r) 100000 (by decide) μ v.val)
  unfold softA
  pointwise []
  simp only [hs]

end Softmax

/-- The reference's result, each logit less the logarithm of its row's sum of exponentials. -/
theorem result_at (m : (ℓ : Loc nD τ sig) → Buf (Elt Ideal) ℓ) (c : Dev nD) (h0 : ∀ j, (m ((c.tc : Thread nD τ).loc main_arg0) j).toNat < 100000)
    {l : Fin 1024 → ℕ → ℝ}
    (hl : ∀ r (v : Fin 100000), Spec.logits (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) r v = (l r v.val : EReal))
    (r : Fin 1024) (v : Fin 100000) :
    Cert.ReferenceIdeal.Value.res_main_v15 m c (ix2 r v) = ((l r v.val - Spec.lse (l r) : ℝ) : EReal) := by
  rw [res_eq]
  exact soft_at (fun r v => (logits_at h0 _ _ _ _ _ r v).trans (hl r v)) r v

end Cert.Proof.Ref

end
-- ==== Proof.Algebraic.lean ====
/-
  The value claim: on real arguments with tokens inside the table, the ideal text of the kernel and the reference write the
  same result, each logit less the logarithm of its row's sum of exponentials.
-/
module

public import proofs.«01_k».proof.Proof.Claims
public import proofs.«01_k».proof.Proof.Value
public import proofs.«01_k».proof.Proof.Ref

@[expose] public section

noncomputable section

namespace Cert.Proof

open Idealize.ShloMosaic Idealize.SL.Sem

/-- An index of the result is its two coordinates. -/
theorem ix2_self (i : Cert.KernelIdeal.S1024x100000.Idx) : (ix2 (i 0) (i 1) : Cert.KernelIdeal.S1024x100000.Idx) = i := by
  funext a
  match a with
  | 0 => rfl
  | 1 => rfl

/-- The logits of real arguments are real. -/
theorem logM_real {m : (ℓ : Loc Cert.KernelIdeal.nD Cert.KernelIdeal.τ Cert.KernelIdeal.sig) → Buf (Elt Ideal) ℓ} (hpre : Cert.Pre_KernelIdeal_in_range_and_finite m)
    (d : Dev Cert.KernelIdeal.nD) : ∃ l : Fin 1024 → ℕ → ℝ, ∀ r (v : Fin 100000), Pool.logM m d r v = (l r v.val : EReal) := by
  obtain ⟨-, h1, h2, h3, h4, h5⟩ := Pre.parts (hpre d)
  exact Spec.exists_real (Spec.logits_real (fun j => Spec.isReal_of_ne (h1 j)) (fun j => Spec.isReal_of_ne (h2 j)) (fun j => Spec.isReal_of_ne (h3 j))
    (fun j => Spec.isReal_of_ne (h4 j)) fun j => Spec.isReal_of_ne (h5 j))

theorem algebraic : Cert.algebraic_KernelIdeal_ReferenceIdeal_pre_in_range_and_finite := by
  intro m g m' g' hpre hagree
  choose l hl using logM_real hpre
  refine ⟨fun c => fun i : Cert.KernelIdeal.S1024x100000.Idx => ((l c (i 0) (i 1).val - Spec.lse (l c (i 0)) : ℝ) : EReal), ?_, ?_⟩
  · refine (θ_run Cert.KernelIdeal.defs _ _).mono (fun r h c => ⟨?_, Pool.args_of_QC m h c⟩) (Pool.run_main m g fun d j => (Pre.parts (hpre d)).1 j)
    obtain ⟨G5, G6, he, hm⟩ := h.1 c
    refine (hm (Idealize.ShloMosaic.Proc.devRef .tc Cert.KernelIdeal.main_v6) (by decide)).trans ?_
    funext i
    have := Pool.result_at m c (hl c) he (i 0) (i 1)
    rwa [ix2_self] at this
  · refine (θ_run Cert.ReferenceIdeal.defs _ _).mono (fun r h c => ⟨(h c).1.trans ?_, (h c).2⟩) (Cert.ReferenceIdeal.Value.run (F := Ideal) m' g')
    obtain ⟨e0, e1, e2, e3, e4, e5⟩ := hagree c
    funext i
    have := Ref.result_at m' c (l := l c) (by rw [e0]; exact (Pre.parts (hpre c)).1) (by rw [e0, e1, e2, e3, e4, e5]; exact hl c) (i 0) (i 1)
    rwa [ix2_self] at this

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_and_finite
public import proofs.«01_k».proof.Proof.Claims
public import proofs.«01_k».proof.Proof.Algebraic
public import proofs.«01_k».proof.Proof.Gen.ReferenceIdeal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Pre_in_range_and_finite.Gen.facts, frame_p, frame_pi, frame_pi_finite, frame_ri, frame_ri_finite, preserves, algebraic⟩

end Cert.Proof

end
